-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v244) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x128x16x16x16 : Shape := ⟨5, ![2, 128, 16, 16, 16]⟩
abbrev S512x128 : Shape := ⟨2, ![512, 128]⟩
abbrev S128x128 : Shape := ⟨2, ![128, 128]⟩
abbrev S128 : Shape := ⟨1, ![128]⟩
abbrev S128x128x3x3x3 : Shape := ⟨5, ![128, 128, 3, 3, 3]⟩
abbrev S4096x45 : Shape := ⟨2, ![4096, 45]⟩
abbrev S_ : Shape := ⟨0, ![]⟩
abbrev S384x128 : Shape := ⟨2, ![384, 128]⟩

class Facts : Prop where
  bcast_S_S2x128x16x16x16 : S_.BroadcastsInDim S2x128x16x16x16 (![] : Fin 0 → Fin S2x128x16x16x16.rank)
  reducesTo_S2x128x16x16x16_S_d0_1_2_3_4 : S2x128x16x16x16.ReducesTo [0, 1, 2, 3, 4] S_
  h_S_ : 0 < S_.numel
  slices_S512x128_S384x128_0_0 : S512x128.Slices ![0, 0] S384x128
  bcast_S_S384x128 : S_.BroadcastsInDim S384x128 (![] : Fin 0 → Fin S384x128.rank)
  reducesTo_S384x128_S_d0_1 : S384x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x128x3x3x3 : S_.BroadcastsInDim S128x128x3x3x3 (![] : Fin 0 → Fin S128x128x3x3x3.rank)
  reducesTo_S128x128x3x3x3_S_d0_1_2_3_4 : S128x128x3x3x3.ReducesTo [0, 1, 2, 3, 4] S_

variable [Facts]

def fn_part1 {F : FTy → Type} [FloatOps F] (main_arg6 : FVec F S128 .f32) (main_arg7 : FVec F S128x128x3x3x3 .f32) (main_v14 : IVec S_ 1) (main_v15 : FVec F S128 .f32) (main_v16 : FVec F S128 .f32) : IVec S_ 1 :=
  let main_v17 : IVec S128 1 := cmpf .olt main_v15 main_v16
  let main_c_5 : IVec S_ 1 := constantI S_ 1 1#1
  let main_v18 : IVec S_ 1 := (fun x v => Host.reduce IntOp.andi x v reducesTo_S128_S_d0 h_S_) main_v17 main_c_5
  let main_v19 : IVec S_ 1 := andi main_v14 main_v18
  let main_v20 : FVec F S128 .f32 := Host.absf main_arg6
  let main_cst_6 : FVec F S_ .f32 := constant S_ .f32 0x7F800000#32
  let main_v21 : FVec F S128 .f32 := broadcastInDim S128 ![] bcast_S_S128 main_cst_6
  let main_v22 : IVec S128 1 := cmpf .olt main_v20 main_v21
  let main_c_7 : IVec S_ 1 := constantI S_ 1 1#1
  let main_v23 : IVec S_ 1 := (fun x v => Host.reduce IntOp.andi x v reducesTo_S128_S_d0 h_S_) main_v22 main_c_7
  let main_v24 : IVec S_ 1 := andi main_v19 main_v23
  let main_v25 : FVec F S128x128x3x3x3 .f32 := Host.absf main_arg7
  let main_cst_8 : FVec F S_ .f32 := constant S_ .f32 0x7F800000#32
  let main_v26 : FVec F S128x128x3x3x3 .f32 := broadcastInDim S128x128x3x3x3 ![] bcast_S_S128x128x3x3x3 main_cst_8
  let main_v27 : IVec S128x128x3x3x3 1 := cmpf .olt main_v25 main_v26
  let main_c_9 : IVec S_ 1 := constantI S_ 1 1#1
  let main_v28 : IVec S_ 1 := (fun x v => Host.reduce IntOp.andi x v reducesTo_S128x128x3x3x3_S_d0_1_2_3_4 h_S_) main_v27 main_c_9
  let main_v29 : IVec S_ 1 := andi main_v24 main_v28
  main_v29

def fn {F : FTy → Type} [FloatOps F] (main_arg0 : FVec F S2x128x16x16x16 .f32) (main_arg1 : FVec F S512x128 .f32) (main_arg2 : FVec F S128x128 .f32) (main_arg3 : FVec F S128 .f32) (main_arg4 : FVec F S128x128 .f32) (main_arg5 : FVec F S128 .f32) (main_arg6 : FVec F S128 .f32) (main_arg7 : FVec F S128x128x3x3x3 .f32) (main_arg8 : FVec F S128 .f32) (main_arg9 : FVec F S128 .f32) (main_arg10 : IVec S4096x45 32) : IVec S_ 1 :=
  let main_v0 : FVec F S2x128x16x16x16 .f32 := Host.absf main_arg0
  let main_cst : FVec F S_ .f32 := constant S_ .f32 0x7F800000#32
  let main_v1 : FVec F S2x128x16x16x16 .f32 := broadcastInDim S2x128x16x16x16 ![] bcast_S_S2x128x16x16x16 main_cst
  let main_v2 : IVec S2x128x16x16x16 1 := cmpf .olt main_v0 main_v1
  let main_c : IVec S_ 1 := constantI S_ 1 1#1
  let main_v3 : IVec S_ 1 := (fun x v => Host.reduce IntOp.andi x v reducesTo_S2x128x16x16x16_S_d0_1_2_3_4 h_S_) main_v2 main_c
  let main_v4 : FVec F S384x128 .f32 := (extractStridedSlice S384x128 ![0, 0] · slices_S512x128_S384x128_0_0) main_arg1
  let main_v5 : FVec F S384x128 .f32 := Host.absf main_v4
  let main_cst_0 : FVec F S_ .f32 := constant S_ .f32 0x7F800000#32
  let main_v6 : FVec F S384x128 .f32 := broadcastInDim S384x128 ![] bcast_S_S384x128 main_cst_0
  let main_v7 : IVec S384x128 1 := cmpf .olt main_v5 main_v6
  let main_c_1 : IVec S_ 1 := constantI S_ 1 1#1
  let main_v8 : IVec S_ 1 := (fun x v => Host.reduce IntOp.andi x v reducesTo_S384x128_S_d0_1 h_S_) main_v7 main_c_1
  let main_v9 : IVec S_ 1 := andi main_v3 main_v8
  let main_v10 : FVec F S128x128 .f32 := Host.absf main_arg4
  let main_cst_2 : FVec F S_ .f32 := constant S_ .f32 0x7F800000#32
  let main_v11 : FVec F S128x128 .f32 := broadcastInDim S128x128 ![] bcast_S_S128x128 main_cst_2
  let main_v12 : IVec S128x128 1 := cmpf .olt main_v10 main_v11
  let main_c_3 : IVec S_ 1 := constantI S_ 1 1#1
  let main_v13 : IVec S_ 1 := (fun x v => Host.reduce IntOp.andi x v reducesTo_S128x128_S_d0_1 h_S_) main_v12 main_c_3
  let main_v14 : IVec S_ 1 := andi main_v9 main_v13
  let main_v15 : FVec F S128 .f32 := Host.absf main_arg5
  let main_cst_4 : FVec F S_ .f32 := constant S_ .f32 0x7F800000#32
  let main_v16 : FVec F S128 .f32 := broadcastInDim S128 ![] bcast_S_S128 main_cst_4
  fn_part1 (F := F) main_arg6 main_arg7 main_v14 main_v15 main_v16
-- ==== Kernel.lean ====
abbrev S2x128x16x16x16 : Shape := ⟨5, ![2, 128, 16, 16, 16]⟩
abbrev S512x128 : Shape := ⟨2, ![512, 128]⟩
abbrev S128x128 : Shape := ⟨2, ![128, 128]⟩
abbrev S128 : Shape := ⟨1, ![128]⟩
abbrev S128x128x3x3x3 : Shape := ⟨5, ![128, 128, 3, 3, 3]⟩
abbrev S4096x45 : Shape := ⟨2, ![4096, 45]⟩
abbrev S2x128x4096 : Shape := ⟨3, ![2, 128, 4096]⟩
abbrev S384x128 : Shape := ⟨2, ![384, 128]⟩
abbrev S128x1 : Shape := ⟨2, ![128, 1]⟩
abbrev S3x128x3x3x128 : Shape := ⟨5, ![3, 128, 3, 3, 128]⟩
abbrev S3x128x1152 : Shape := ⟨3, ![3, 128, 1152]⟩
abbrev S2x1152x4608 : Shape := ⟨3, ![2, 1152, 4608]⟩
abbrev S1x128x4096 : Shape := ⟨3, ![1, 128, 4096]⟩
abbrev S128x4096 : Shape := ⟨2, ![128, 4096]⟩
abbrev S384x4096 : Shape := ⟨2, ![384, 4096]⟩
abbrev S256x4096 : Shape := ⟨2, ![256, 4096]⟩
abbrev S256 : Shape := ⟨1, ![256]⟩
abbrev S256x1 : Shape := ⟨2, ![256, 1]⟩
abbrev S1x128 : Shape := ⟨2, ![1, 128]⟩
abbrev S1x4096 : Shape := ⟨2, ![1, 4096]⟩
abbrev S1152x256 : Shape := ⟨2, ![1152, 256]⟩
abbrev S1x1152x256 : Shape := ⟨3, ![1, 1152, 256]⟩
abbrev S1x128x1152 : Shape := ⟨3, ![1, 128, 1152]⟩
abbrev S128x1152 : Shape := ⟨2, ![128, 1152]⟩
abbrev S1x1152x1024 : Shape := ⟨3, ![1, 1152, 1024]⟩
abbrev S1152x1024 : Shape := ⟨2, ![1152, 1024]⟩
abbrev S128x1024 : Shape := ⟨2, ![128, 1024]⟩
abbrev S1x128x1024 : Shape := ⟨3, ![1, 128, 1024]⟩
abbrev S1 : Shape := ⟨1, ![1]⟩
abbrev S1x1x1 : Shape := ⟨3, ![1, 1, 1]⟩

abbrev nBuf : Space → Nat
  | .hbm => 26
  | .vmem => 9
  | .smem => 0
  | _ => 0

abbrev bufTy : (tb : Table) → Fin (tcTables nBuf tb) → BufTy
  | .hbm, ⟨0, _⟩ => ⟨S2x128x16x16x16, .f32⟩
  | .hbm, ⟨1, _⟩ => ⟨S512x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128x128x3x3x3, .f32⟩
  | .hbm, ⟨8, _⟩ => ⟨S128, .f32⟩
  | .hbm, ⟨9, _⟩ => ⟨S128, .f32⟩
  | .hbm, ⟨10, _⟩ => ⟨S4096x45, .i32⟩
  | .hbm, ⟨11, _⟩ => ⟨S2x128x4096, .f32⟩
  | .hbm, ⟨12, _⟩ => ⟨S384x128, .f32⟩
  | .hbm, ⟨13, _⟩ => ⟨S384x128, .bf16⟩
  | .hbm, ⟨14, _⟩ => ⟨S128x1, .f32⟩
  | .hbm, ⟨15, _⟩ => ⟨S128x128, .f32⟩
  | .hbm, ⟨16, _⟩ => ⟨S128x128, .f32⟩
  | .hbm, ⟨17, _⟩ => ⟨S128x128, .bf16⟩
  | .hbm, ⟨18, _⟩ => ⟨S128, .f32⟩
  | .hbm, ⟨19, _⟩ => ⟨S128x1, .f32⟩
  | .hbm, ⟨20, _⟩ => ⟨S128x128x3x3x3, .bf16⟩
  | .hbm, ⟨21, _⟩ => ⟨S3x128x3x3x128, .bf16⟩
  | .hbm, ⟨22, _⟩ => ⟨S3x128x1152, .bf16⟩
  | .hbm, ⟨23, _⟩ => ⟨S128x1, .f32⟩
  | .hbm, ⟨24, _⟩ => ⟨S128x1, .f32⟩
  | .hbm, ⟨25, _⟩ => ⟨S2x128x4096, .f32⟩
  | .local _ .vmem, ⟨0, _⟩ => ⟨S2x128x4096, .f32⟩
  | .local _ .vmem, ⟨1, _⟩ => ⟨S384x128, .bf16⟩
  | .local _ .vmem, ⟨2, _⟩ => ⟨S128x128, .bf16⟩
  | .local _ .vmem, ⟨3, _⟩ => ⟨S128x1, .f32⟩
  | .local _ .vmem, ⟨4, _⟩ => ⟨S3x128x1152, .bf16⟩
  | .local _ .vmem, ⟨5, _⟩ => ⟨S128x1, .f32⟩
  | .local _ .vmem, ⟨6, _⟩ => ⟨S128x1, .f32⟩
  | .local _ .vmem, ⟨7, _⟩ => ⟨S2x128x4096, .f32⟩
  | .local _ .vmem, ⟨8, _⟩ => ⟨S2x1152x4608, .bf16⟩
  | _, _ => ⟨S2x128x16x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x128x1152 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x128x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x128x16x16x16 : Shape := ⟨5, ![2, 128, 16, 16, 16]⟩
abbrev S512x128 : Shape := ⟨2, ![512, 128]⟩
abbrev S128x128 : Shape := ⟨2, ![128, 128]⟩
abbrev S128 : Shape := ⟨1, ![128]⟩
abbrev S128x128x3x3x3 : Shape := ⟨5, ![128, 128, 3, 3, 3]⟩
abbrev S4096x45 : Shape := ⟨2, ![4096, 45]⟩
abbrev S2x128x4096 : Shape := ⟨3, ![2, 128, 4096]⟩
abbrev S2x4096x128 : Shape := ⟨3, ![2, 4096, 128]⟩
abbrev S128x512 : Shape := ⟨2, ![128, 512]⟩
abbrev S2x4096x512 : Shape := ⟨3, ![2, 4096, 512]⟩
abbrev S2x4096x4x4x32 : Shape := ⟨5, ![2, 4096, 4, 4, 32]⟩
abbrev S4x2x4x4096x32 : Shape := ⟨5, ![4, 2, 4, 4096, 32]⟩
abbrev S1x2x4x4096x32 : Shape := ⟨5, ![1, 2, 4, 4096, 32]⟩
abbrev S2x4x4096x32 : Shape := ⟨4, ![2, 4, 4096, 32]⟩
abbrev S_ : Shape := ⟨0, ![]⟩
abbrev S2x4x32 : Shape := ⟨3, ![2, 4, 32]⟩
abbrev S2x4x1x32 : Shape := ⟨4, ![2, 4, 1, 32]⟩
abbrev S2x4x32x4096 : Shape := ⟨4, ![2, 4, 32, 4096]⟩
abbrev S2x4x32x32 : Shape := ⟨4, ![2, 4, 32, 32]⟩
abbrev S2x4x32x1 : Shape := ⟨4, ![2, 4, 32, 1]⟩
abbrev S2x4096x4x32 : Shape := ⟨4, ![2, 4096, 4, 32]⟩
abbrev S1x1x128 : Shape := ⟨3, ![1, 1, 128]⟩
abbrev S2x16x16x16x128 : Shape := ⟨5, ![2, 16, 16, 16, 128]⟩
abbrev S2x128x18x18x18 : Shape := ⟨5, ![2, 128, 18, 18, 18]⟩
abbrev S128x128x1x1x1 : Shape := ⟨5, ![128, 128, 1, 1, 1]⟩
abbrev S2 : Shape := ⟨1, ![2]⟩
abbrev S2x1x1x1x1 : Shape := ⟨5, ![2, 1, 1, 1, 1]⟩
abbrev S1x128x1x1x1 : Shape := ⟨5, ![1, 128, 1, 1, 1]⟩

abbrev nBuf : Space → Nat
  | .hbm => 293
  | .vmem => 0
  | .smem => 0
  | _ => 0

abbrev hbmTy0_0 (i : Nat) : BufTy := match i % 128 with
  | 0 => ⟨S2x128x16x16x16, .f32⟩
  | 1 => ⟨S512x128, .f32⟩
  | 2 => ⟨S128x128, .f32⟩
  | 3 => ⟨S128, .f32⟩
  | 4 => ⟨S128x128, .f32⟩
  | 5 => ⟨S128, .f32⟩
  | 6 => ⟨S128, .f32⟩
  | 7 => ⟨S128x128x3x3x3, .f32⟩
  | 8 => ⟨S128, .f32⟩
  | 9 => ⟨S128, .f32⟩
  | 10 => ⟨S4096x45, .i32⟩
  | 11 => ⟨S2x128x4096, .f32⟩
  | 12 => ⟨S2x4096x128, .f32⟩
  | 13 => ⟨S128x512, .f32⟩
  | 14 => ⟨S2x4096x512, .f32⟩
  | 15 => ⟨S2x4096x4x4x32, .f32⟩
  | 16 => ⟨S4x2x4x4096x32, .f32⟩
  | 17 => ⟨S1x2x4x4096x32, .f32⟩
  | 18 => ⟨S2x4x4096x32, .f32⟩
  | 19 => ⟨S1x2x4x4096x32, .f32⟩
  | 20 => ⟨S2x4x4096x32, .f32⟩
  | 21 => ⟨S1x2x4x4096x32, .f32⟩
  | 22 => ⟨S2x4x4096x32, .f32⟩
  | 23 => ⟨S2x4x4096x32, .f32⟩
  | 24 => ⟨S_, .f32⟩
  | 25 => ⟨S2x4x32, .f32⟩
  | 26 => ⟨S2x4x1x32, .f32⟩
  | 27 => ⟨S2x4x1x32, .f32⟩
  | 28 => ⟨S_, .f32⟩
  | 29 => ⟨S2x4x1x32, .f32⟩
  | 30 => ⟨S2x4x1x32, .f32⟩
  | 31 => ⟨S2x4x4096x32, .f32⟩
  | 32 => ⟨S2x4x4096x32, .f32⟩
  | 33 => ⟨S2x4x4096x32, .f32⟩
  | 34 => ⟨S_, .f32⟩
  | 35 => ⟨S2x4x32, .f32⟩
  | 36 => ⟨S2x4x1x32, .f32⟩
  | 37 => ⟨S2x4x1x32, .f32⟩
  | 38 => ⟨S_, .f32⟩
  | 39 => ⟨S2x4x1x32, .f32⟩
  | 40 => ⟨S2x4x1x32, .f32⟩
  | 41 => ⟨S2x4x4096x32, .f32⟩
  | 42 => ⟨S2x4x4096x32, .f32⟩
  | 43 => ⟨S2x4x32x4096, .f32⟩
  | 44 => ⟨S2x4x32x4096, .f32⟩
  | 45 => ⟨S2x4x32x4096, .f32⟩
  | 46 => ⟨S2x4x4096x32, .f32⟩
  | 47 => ⟨S2x4x32x32, .f32⟩
  | 48 => ⟨S_, .f32⟩
  | 49 => ⟨S2x4x32, .f32⟩
  | 50 => ⟨S_, .f32⟩
  | 51 => ⟨S2x4x32, .f32⟩
  | 52 => ⟨S2x4x32, .f32⟩
  | 53 => ⟨S2x4x32x1, .f32⟩
  | 54 => ⟨S2x4x32x32, .f32⟩
  | 55 => ⟨S2x4x32x32, .f32⟩
  | 56 => ⟨S2x4x32x32, .f32⟩
  | 57 => ⟨S_, .f32⟩
  | 58 => ⟨S2x4x32, .f32⟩
  | 59 => ⟨S2x4x32x1, .f32⟩
  | 60 => ⟨S2x4x32x32, .f32⟩
  | 61 => ⟨S2x4x32x32, .f32⟩
  | 62 => ⟨S2x4x32x4096, .f32⟩
  | 63 => ⟨S2x4096x4x32, .f32⟩
  | 64 => ⟨S2x4096x128, .f32⟩
  | 65 => ⟨S128x128, .f32⟩
  | 66 => ⟨S2x4096x128, .f32⟩
  | 67 => ⟨S1x1x128, .f32⟩
  | 68 => ⟨S2x4096x128, .f32⟩
  | 69 => ⟨S2x4096x128, .f32⟩
  | 70 => ⟨S1x1x128, .f32⟩
  | 71 => ⟨S2x4096x128, .f32⟩
  | 72 => ⟨S2x4096x128, .f32⟩
  | 73 => ⟨S2x4096x128, .f32⟩
  | 74 => ⟨S2x16x16x16x128, .f32⟩
  | 75 => ⟨S2x128x16x16x16, .f32⟩
  | 76 => ⟨S_, .i32⟩
  | 77 => ⟨S_, .f32⟩
  | 78 => ⟨S2x128x18x18x18, .f32⟩
  | 79 => ⟨S128x128x1x1x1, .f32⟩
  | 80 => ⟨S128x128, .f32⟩
  | 81 => ⟨S2x128x16x16x16, .f32⟩
  | 82 => ⟨S2x16x16x16x128, .f32⟩
  | 83 => ⟨S2x128x16x16x16, .f32⟩
  | 84 => ⟨S128x128x1x1x1, .f32⟩
  | 85 => ⟨S128x128, .f32⟩
  | 86 => ⟨S2x128x16x16x16, .f32⟩
  | 87 => ⟨S2x16x16x16x128, .f32⟩
  | 88 => ⟨S2x128x16x16x16, .f32⟩
  | 89 => ⟨S2x128x16x16x16, .f32⟩
  | 90 => ⟨S128x128x1x1x1, .f32⟩
  | 91 => ⟨S128x128, .f32⟩
  | 92 => ⟨S2x128x16x16x16, .f32⟩
  | 93 => ⟨S2x16x16x16x128, .f32⟩
  | 94 => ⟨S2x128x16x16x16, .f32⟩
  | 95 => ⟨S2x128x16x16x16, .f32⟩
  | 96 => ⟨S128x128x1x1x1, .f32⟩
  | 97 => ⟨S128x128, .f32⟩
  | 98 => ⟨S2x128x16x16x16, .f32⟩
  | 99 => ⟨S2x16x16x16x128, .f32⟩
  | 100 => ⟨S2x128x16x16x16, .f32⟩
  | 101 => ⟨S2x128x16x16x16, .f32⟩
  | 102 => ⟨S128x128x1x1x1, .f32⟩
  | 103 => ⟨S128x128, .f32⟩
  | 104 => ⟨S2x128x16x16x16, .f32⟩
  | 105 => ⟨S2x16x16x16x128, .f32⟩
  | 106 => ⟨S2x128x16x16x16, .f32⟩
  | 107 => ⟨S2x128x16x16x16, .f32⟩
  | 108 => ⟨S128x128x1x1x1, .f32⟩
  | 109 => ⟨S128x128, .f32⟩
  | 110 => ⟨S2x128x16x16x16, .f32⟩
  | 111 => ⟨S2x16x16x16x128, .f32⟩
  | 112 => ⟨S2x128x16x16x16, .f32⟩
  | 113 => ⟨S2x128x16x16x16, .f32⟩
  | 114 => ⟨S128x128x1x1x1, .f32⟩
  | 115 => ⟨S128x128, .f32⟩
  | 116 => ⟨S2x128x16x16x16, .f32⟩
  | 117 => ⟨S2x16x16x16x128, .f32⟩
  | 118 => ⟨S2x128x16x16x16, .f32⟩
  | 119 => ⟨S2x128x16x16x16, .f32⟩
  | 120 => ⟨S128x128x1x1x1, .f32⟩
  | 121 => ⟨S128x128, .f32⟩
  | 122 => ⟨S2x128x16x16x16, .f32⟩
  | 123 => ⟨S2x16x16x16x128, .f32⟩
  | 124 => ⟨S2x128x16x16x16, .f32⟩
  | 125 => ⟨S2x128x16x16x16, .f32⟩
  | 126 => ⟨S128x128x1x1x1, .f32⟩
  | 127 => ⟨S128x128, .f32⟩
  | _ => ⟨S2x128x16x16x16, .f32⟩

abbrev hbmTy0_1 (i : Nat) : BufTy := match i % 128 with
  | 0 => ⟨S2x128x16x16x16, .f32⟩
  | 1 => ⟨S2x16x16x16x128, .f32⟩
  | 2 => ⟨S2x128x16x16x16, .f32⟩
  | 3 => ⟨S2x128x16x16x16, .f32⟩
  | 4 => ⟨S128x128x1x1x1, .f32⟩
  | 5 => ⟨S128x128, .f32⟩
  | 6 => ⟨S2x128x16x16x16, .f32⟩
  | 7 => ⟨S2x16x16x16x128, .f32⟩
  | 8 => ⟨S2x128x16x16x16, .f32⟩
  | 9 => ⟨S2x128x16x16x16, .f32⟩
  | 10 => ⟨S128x128x1x1x1, .f32⟩
  | 11 => ⟨S128x128, .f32⟩
  | 12 => ⟨S2x128x16x16x16, .f32⟩
  | 13 => ⟨S2x16x16x16x128, .f32⟩
  | 14 => ⟨S2x128x16x16x16, .f32⟩
  | 15 => ⟨S2x128x16x16x16, .f32⟩
  | 16 => ⟨S128x128x1x1x1, .f32⟩
  | 17 => ⟨S128x128, .f32⟩
  | 18 => ⟨S2x128x16x16x16, .f32⟩
  | 19 => ⟨S2x16x16x16x128, .f32⟩
  | 20 => ⟨S2x128x16x16x16, .f32⟩
  | 21 => ⟨S2x128x16x16x16, .f32⟩
  | 22 => ⟨S128x128x1x1x1, .f32⟩
  | 23 => ⟨S128x128, .f32⟩
  | 24 => ⟨S2x128x16x16x16, .f32⟩
  | 25 => ⟨S2x16x16x16x128, .f32⟩
  | 26 => ⟨S2x128x16x16x16, .f32⟩
  | 27 => ⟨S2x128x16x16x16, .f32⟩
  | 28 => ⟨S128x128x1x1x1, .f32⟩
  | 29 => ⟨S128x128, .f32⟩
  | 30 => ⟨S2x128x16x16x16, .f32⟩
  | 31 => ⟨S2x16x16x16x128, .f32⟩
  | 32 => ⟨S2x128x16x16x16, .f32⟩
  | 33 => ⟨S2x128x16x16x16, .f32⟩
  | 34 => ⟨S128x128x1x1x1, .f32⟩
  | 35 => ⟨S128x128, .f32⟩
  | 36 => ⟨S2x128x16x16x16, .f32⟩
  | 37 => ⟨S2x16x16x16x128, .f32⟩
  | 38 => ⟨S2x128x16x16x16, .f32⟩
  | 39 => ⟨S2x128x16x16x16, .f32⟩
  | 40 => ⟨S128x128x1x1x1, .f32⟩
  | 41 => ⟨S128x128, .f32⟩
  | 42 => ⟨S2x128x16x16x16, .f32⟩
  | 43 => ⟨S2x16x16x16x128, .f32⟩
  | 44 => ⟨S2x128x16x16x16, .f32⟩
  | 45 => ⟨S2x128x16x16x16, .f32⟩
  | 46 => ⟨S128x128x1x1x1, .f32⟩
  | 47 => ⟨S128x128, .f32⟩
  | 48 => ⟨S2x128x16x16x16, .f32⟩
  | 49 => ⟨S2x16x16x16x128, .f32⟩
  | 50 => ⟨S2x128x16x16x16, .f32⟩
  | 51 => ⟨S2x128x16x16x16, .f32⟩
  | 52 => ⟨S128x128x1x1x1, .f32⟩
  | 53 => ⟨S128x128, .f32⟩
  | 54 => ⟨S2x128x16x16x16, .f32⟩
  | 55 => ⟨S2x16x16x16x128, .f32⟩
  | 56 => ⟨S2x128x16x16x16, .f32⟩
  | 57 => ⟨S2x128x16x16x16, .f32⟩
  | 58 => ⟨S128x128x1x1x1, .f32⟩
  | 59 => ⟨S128x128, .f32⟩
  | 60 => ⟨S2x128x16x16x16, .f32⟩
  | 61 => ⟨S2x16x16x16x128, .f32⟩
  | 62 => ⟨S2x128x16x16x16, .f32⟩
  | 63 => ⟨S2x128x16x16x16, .f32⟩
  | 64 => ⟨S128x128x1x1x1, .f32⟩
  | 65 => ⟨S128x128, .f32⟩
  | 66 => ⟨S2x128x16x16x16, .f32⟩
  | 67 => ⟨S2x16x16x16x128, .f32⟩
  | 68 => ⟨S2x128x16x16x16, .f32⟩
  | 69 => ⟨S2x128x16x16x16, .f32⟩
  | 70 => ⟨S128x128x1x1x1, .f32⟩
  | 71 => ⟨S128x128, .f32⟩
  | 72 => ⟨S2x128x16x16x16, .f32⟩
  | 73 => ⟨S2x16x16x16x128, .f32⟩
  | 74 => ⟨S2x128x16x16x16, .f32⟩
  | 75 => ⟨S2x128x16x16x16, .f32⟩
  | 76 => ⟨S128x128x1x1x1, .f32⟩
  | 77 => ⟨S128x128, .f32⟩
  | 78 => ⟨S2x128x16x16x16, .f32⟩
  | 79 => ⟨S2x16x16x16x128, .f32⟩
  | 80 => ⟨S2x128x16x16x16, .f32⟩
  | 81 => ⟨S2x128x16x16x16, .f32⟩
  | 82 => ⟨S128x128x1x1x1, .f32⟩
  | 83 => ⟨S128x128, .f32⟩
  | 84 => ⟨S2x128x16x16x16, .f32⟩
  | 85 => ⟨S2x16x16x16x128, .f32⟩
  | 86 => ⟨S2x128x16x16x16, .f32⟩
  | 87 => ⟨S2x128x16x16x16, .f32⟩
  | 88 => ⟨S128x128x1x1x1, .f32⟩
  | 89 => ⟨S128x128, .f32⟩
  | 90 => ⟨S2x128x16x16x16, .f32⟩
  | 91 => ⟨S2x16x16x16x128, .f32⟩
  | 92 => ⟨S2x128x16x16x16, .f32⟩
  | 93 => ⟨S2x128x16x16x16, .f32⟩
  | 94 => ⟨S128x128x1x1x1, .f32⟩
  | 95 => ⟨S128x128, .f32⟩
  | 96 => ⟨S2x128x16x16x16, .f32⟩
  | 97 => ⟨S2x16x16x16x128, .f32⟩
  | 98 => ⟨S2x128x16x16x16, .f32⟩
  | 99 => ⟨S2x128x16x16x16, .f32⟩
  | 100 => ⟨S128x128x1x1x1, .f32⟩
  | 101 => ⟨S128x128, .f32⟩
  | 102 => ⟨S2x128x16x16x16, .f32⟩
  | 103 => ⟨S2x16x16x16x128, .f32⟩
  | 104 => ⟨S2x128x16x16x16, .f32⟩
  | 105 => ⟨S2x128x16x16x16, .f32⟩
  | 106 => ⟨S128x128x1x1x1, .f32⟩
  | 107 => ⟨S128x128, .f32⟩
  | 108 => ⟨S2x128x16x16x16, .f32⟩
  | 109 => ⟨S2x16x16x16x128, .f32⟩
  | 110 => ⟨S2x128x16x16x16, .f32⟩
  | 111 => ⟨S2x128x16x16x16, .f32⟩
  | 112 => ⟨S_, .f32⟩
  | 113 => ⟨S2, .f32⟩
  | 114 => ⟨S2x1x1x1x1, .f32⟩
  | 115 => ⟨S_, .f32⟩
  | 116 => ⟨S2x1x1x1x1, .f32⟩
  | 117 => ⟨S2x1x1x1x1, .f32⟩
  | 118 => ⟨S_, .i32⟩
  | 119 => ⟨S_, .f32⟩
  | 120 => ⟨S2, .f32⟩
  | 121 => ⟨S2x1x1x1x1, .f32⟩
  | 122 => ⟨S_, .f32⟩
  | 123 => ⟨S2x1x1x1x1, .f32⟩
  | 124 => ⟨S2x1x1x1x1, .f32⟩
  | 125 => ⟨S2x128x16x16x16, .f32⟩
  | 126 => ⟨S2x128x16x16x16, .f32⟩
  | 127 => ⟨S2x128x16x16x16, .f32⟩
  | _ => ⟨S2x128x16x16x16, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S2, .f32⟩
  | 5 => ⟨S2x1x1x1x1, .f32⟩
  | 6 => ⟨S2x1x1x1x1, .f32⟩
  | 7 => ⟨S2x1x1x1x1, .f32⟩
  | 8 => ⟨S_, .f32⟩
  | 9 => ⟨S_, .i1⟩
  | 10 => ⟨S_, .f32⟩
  | 11 => ⟨S_, .f32⟩
  | 12 => ⟨S2x1x1x1x1, .f32⟩
  | 13 => ⟨S2x1x1x1x1, .f32⟩
  | 14 => ⟨S2x128x16x16x16, .f32⟩
  | 15 => ⟨S2x128x16x16x16, .f32⟩
  | 16 => ⟨S_, .f32⟩
  | 17 => ⟨S2x1x1x1x1, .f32⟩
  | 18 => ⟨S2x1x1x1x1, .f32⟩
  | 19 => ⟨S2x1x1x1x1, .f32⟩
  | 20 => ⟨S2x128x16x16x16, .f32⟩
  | 21 => ⟨S2x128x16x16x16, .f32⟩
  | 22 => ⟨S1x128x1x1x1, .f32⟩
  | 23 => ⟨S2x128x16x16x16, .f32⟩
  | 24 => ⟨S2x128x16x16x16, .f32⟩
  | 25 => ⟨S1x128x1x1x1, .f32⟩
  | 26 => ⟨S2x128x16x16x16, .f32⟩
  | 27 => ⟨S2x128x16x16x16, .f32⟩
  | 28 => ⟨S2x128x16x16x16, .f32⟩
  | 29 => ⟨S_, .f32⟩
  | 30 => ⟨S2x128x16x16x16, .f32⟩
  | 31 => ⟨S2x128x16x16x16, .i1⟩
  | 32 => ⟨S_, .f32⟩
  | 33 => ⟨S2x128x16x16x16, .f32⟩
  | 34 => ⟨S2x128x16x16x16, .f32⟩
  | 35 => ⟨S2x128x16x16x16, .f32⟩
  | 36 => ⟨S2x128x4096, .f32⟩
  | _ => ⟨S2x128x16x16x16, .f32⟩

abbrev hbmTy (i : Nat) : BufTy := match i / 128 with
  | 0 => hbmTy0_0 i
  | 1 => hbmTy0_1 i
  | 2 => hbmTy0_2 i
  | _ => ⟨S2x128x16x16x16, .f32⟩

abbrev bufTy : (tb : Table) → Fin (tcTables nBuf tb) → BufTy
  | .hbm, ⟨i, _⟩ => hbmTy i
  | _, _ => ⟨S2x128x16x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_5 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_c : Ref sig .tc := ⟨.hbm, 76, rfl⟩
abbrev main_call0_v0 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩
abbrev main_v171 : Ref sig .tc := ⟨.hbm, 191, rfl⟩
abbrev main_v172 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_v181 : Ref sig .tc := ⟨.hbm, 201, rfl⟩
abbrev main_v182 : Ref sig .tc := ⟨.hbm, 202, rfl⟩
abbrev main_v183 : Ref sig .tc := ⟨.hbm, 203, rfl⟩
abbrev main_v184 : Ref sig .tc := ⟨.hbm, 204, rfl⟩
abbrev main_v185 : Ref sig .tc := ⟨.hbm, 205, rfl⟩
abbrev main_v186 : Ref sig .tc := ⟨.hbm, 206, rfl⟩
abbrev main_v187 : Ref sig .tc := ⟨.hbm, 207, rfl⟩
abbrev main_v188 : Ref sig .tc := ⟨.hbm, 208, rfl⟩
abbrev main_v189 : Ref sig .tc := ⟨.hbm, 209, rfl⟩
abbrev main_v190 : Ref sig .tc := ⟨.hbm, 210, rfl⟩
abbrev main_v191 : Ref sig .tc := ⟨.hbm, 211, rfl⟩
abbrev main_v192 : Ref sig .tc := ⟨.hbm, 212, rfl⟩
abbrev main_v193 : Ref sig .tc := ⟨.hbm, 213, rfl⟩
abbrev main_v194 : Ref sig .tc := ⟨.hbm, 214, rfl⟩
abbrev main_v195 : Ref sig .tc := ⟨.hbm, 215, rfl⟩
abbrev main_v196 : Ref sig .tc := ⟨.hbm, 216, rfl⟩
abbrev main_v197 : Ref sig .tc := ⟨.hbm, 217, rfl⟩
abbrev main_v198 : Ref sig .tc := ⟨.hbm, 218, rfl⟩
abbrev main_v199 : Ref sig .tc := ⟨.hbm, 219, rfl⟩
abbrev main_v200 : Ref sig .tc := ⟨.hbm, 220, rfl⟩
abbrev main_v201 : Ref sig .tc := ⟨.hbm, 221, rfl⟩
abbrev main_v202 : Ref sig .tc := ⟨.hbm, 222, rfl⟩
abbrev main_v203 : Ref sig .tc := ⟨.hbm, 223, rfl⟩
abbrev main_v204 : Ref sig .tc := ⟨.hbm, 224, rfl⟩
abbrev main_v205 : Ref sig .tc := ⟨.hbm, 225, rfl⟩
abbrev main_v206 : Ref sig .tc := ⟨.hbm, 226, rfl⟩
abbrev main_v207 : Ref sig .tc := ⟨.hbm, 227, rfl⟩
abbrev main_v208 : Ref sig .tc := ⟨.hbm, 228, rfl⟩
abbrev main_v209 : Ref sig .tc := ⟨.hbm, 229, rfl⟩
abbrev main_v210 : Ref sig .tc := ⟨.hbm, 230, rfl⟩
abbrev main_v211 : Ref sig .tc := ⟨.hbm, 231, rfl⟩
abbrev main_v212 : Ref sig .tc := ⟨.hbm, 232, rfl⟩
abbrev main_v213 : Ref sig .tc := ⟨.hbm, 233, rfl⟩
abbrev main_v214 : Ref sig .tc := ⟨.hbm, 234, rfl⟩
abbrev main_v215 : Ref sig .tc := ⟨.hbm, 235, rfl⟩
abbrev main_v216 : Ref sig .tc := ⟨.hbm, 236, rfl⟩
abbrev main_v217 : Ref sig .tc := ⟨.hbm, 237, rfl⟩
abbrev main_v218 : Ref sig .tc := ⟨.hbm, 238, rfl⟩
abbrev main_v219 : Ref sig .tc := ⟨.hbm, 239, rfl⟩
abbrev main_cst_6 : Ref sig .tc := ⟨.hbm, 240, rfl⟩
abbrev main_v220 : Ref sig .tc := ⟨.hbm, 241, rfl⟩
abbrev main_v221 : Ref sig .tc := ⟨.hbm, 242, rfl⟩
abbrev main_cst_7 : Ref sig .tc := ⟨.hbm, 243, rfl⟩
abbrev main_v222 : Ref sig .tc := ⟨.hbm, 244, rfl⟩
abbrev main_v223 : Ref sig .tc := ⟨.hbm, 245, rfl⟩
abbrev main_c_8 : Ref sig .tc := ⟨.hbm, 246, rfl⟩
abbrev main_call1_cst : Ref sig .tc := ⟨.hbm, 247, rfl⟩
abbrev main_call1_v0 : Ref sig .tc := ⟨.hbm, 248, rfl⟩
abbrev main_call1_v1 : Ref sig .tc := ⟨.hbm, 249, rfl⟩
abbrev main_call1_cst_0 : Ref sig .tc := ⟨.hbm, 250, rfl⟩
abbrev main_call1_v2 : Ref sig .tc := ⟨.hbm, 251, rfl⟩
abbrev main_call1_v3 : Ref sig .tc := ⟨.hbm, 252, rfl⟩
abbrev main_call1_v4 : Ref sig .tc := ⟨.hbm, 253, rfl⟩
abbrev main_call1_v5 : Ref sig .tc := ⟨.hbm, 254, rfl⟩
abbrev main_call1_v6 : Ref sig .tc := ⟨.hbm, 255, rfl⟩
abbrev main_call1_v7 : Ref sig .tc := ⟨.hbm, 256, rfl⟩
abbrev main_call1_cst_1 : Ref sig .tc := ⟨.hbm, 257, rfl⟩
abbrev main_call1_v8 : Ref sig .tc := ⟨.hbm, 258, rfl⟩
abbrev main_call1_cst_2 : Ref sig .tc := ⟨.hbm, 259, rfl⟩
abbrev main_call1_v9 : Ref sig .tc := ⟨.hbm, 260, rfl⟩
abbrev main_call1_v10 : Ref sig .tc := ⟨.hbm, 261, rfl⟩
abbrev main_call1_v11 : Ref sig .tc := ⟨.hbm, 262, rfl⟩
abbrev main_call1_v12 : Ref sig .tc := ⟨.hbm, 263, rfl⟩
abbrev main_call1_cst_3 : Ref sig .tc := ⟨.hbm, 264, rfl⟩
abbrev main_call1_v13 : Ref sig .tc := ⟨.hbm, 265, rfl⟩
abbrev main_call1_cst_4 : Ref sig .tc := ⟨.hbm, 266, rfl⟩
abbrev main_call1_call0_v0 : Ref sig .tc := ⟨.hbm, 267, rfl⟩
abbrev main_call1_call0_v1 : Ref sig .tc := ⟨.hbm, 268, rfl⟩
abbrev main_v224 : Ref sig .tc := ⟨.hbm, 269, rfl⟩
abbrev main_v225 : Ref sig .tc := ⟨.hbm, 270, rfl⟩
abbrev main_v226 : Ref sig .tc := ⟨.hbm, 271, rfl⟩
abbrev main_cst_9 : Ref sig .tc := ⟨.hbm, 272, rfl⟩
abbrev main_v227 : Ref sig .tc := ⟨.hbm, 273, rfl⟩
abbrev main_v228 : Ref sig .tc := ⟨.hbm, 274, rfl⟩
abbrev main_v229 : Ref sig .tc := ⟨.hbm, 275, rfl⟩
abbrev main_v230 : Ref sig .tc := ⟨.hbm, 276, rfl⟩
abbrev main_v231 : Ref sig .tc := ⟨.hbm, 277, rfl⟩
abbrev main_v232 : Ref sig .tc := ⟨.hbm, 278, rfl⟩
abbrev main_v233 : Ref sig .tc := ⟨.hbm, 279, rfl⟩
abbrev main_v234 : Ref sig .tc := ⟨.hbm, 280, rfl⟩
abbrev main_v235 : Ref sig .tc := ⟨.hbm, 281, rfl⟩
abbrev main_v236 : Ref sig .tc := ⟨.hbm, 282, rfl⟩
abbrev main_v237 : Ref sig .tc := ⟨.hbm, 283, rfl⟩
abbrev main_v238 : Ref sig .tc := ⟨.hbm, 284, rfl⟩
abbrev main_cst_10 : Ref sig .tc := ⟨.hbm, 285, rfl⟩
abbrev main_v239 : Ref sig .tc := ⟨.hbm, 286, rfl⟩
abbrev main_v240 : Ref sig .tc := ⟨.hbm, 287, rfl⟩
abbrev main_cst_11 : Ref sig .tc := ⟨.hbm, 288, rfl⟩
abbrev main_v241 : Ref sig .tc := ⟨.hbm, 289, rfl⟩
abbrev main_v242 : Ref sig .tc := ⟨.hbm, 290, rfl⟩
abbrev main_v243 : Ref sig .tc := ⟨.hbm, 291, rfl⟩
abbrev main_v244 : Ref sig .tc := ⟨.hbm, 292, rfl⟩

abbrev nD : Nat := 1
abbrev τ : Topo := Topo.v7x

variable {F : FTy → Type} [FloatOps F]
-- ==== Proof.Kernel.lean ====
module

public import proofs.«01_k».proof.Proof.Gen.KernelIdeal.Value
public import Idealize.ShloMosaic.Lib.Pipeline.ValueKit
public import Idealize.ShloMosaic.Lib.Pipeline.ReadBack

@[expose] public section

set_option maxRecDepth 16384

/-! What the kernel's one grid point leaves in its output block, as one formula that treats the two batch items and the four column tiles alike. -/

noncomputable section

namespace Cert.Kern

open Cert.KernelIdeal Cert.KernelIdeal.Gen Idealize.ShloMosaic Idealize.ShloMosaic.TcCoe Idealize.SL.Sem

variable {F : FTy → Type} [FloatOps F] [Named F]

/-- A box of unit strides lies inside a three-axis shape when each axis does. -/
theorem inb3 {s : Fin 3 → ℕ} {a b c p q r : ℕ} (h0 : a + p ≤ s 0) (h1 : b + q ≤ s 1) (h2 : c + r ≤ s 2) :
    ∀ i, (![a, b, c] : Fin 3 → ℕ) i + (![p, q, r] : Fin 3 → ℕ) i ≤ s i := by
  intro i
  fin_cases i
  · exact h0
  · exact h1
  · exact h2

/-- The whole of one batch item. -/
abbrev rx (b : Fin 2) : Rect S2x128x4096 :=
  Rect.unit (s := S2x128x4096) ![b.val, 0, 0] ![1, 128, 4096] (inb3 (s := S2x128x4096.size) (by have := b.isLt; show b.val + 1 ≤ 2; omega) (by decide) (by decide))

/-- A column tile of one batch item. -/
abbrev ro (b : Fin 2) (t : Fin 4) : Rect S2x128x4096 :=
  Rect.unit (s := S2x128x4096) ![b.val, 0, 1024 * t.val] ![1, 128, 1024]
    (inb3 (s := S2x128x4096.size) (by have := b.isLt; show b.val + 1 ≤ 2; omega) (by decide) (by have := t.isLt; show 1024 * t.val + 1024 ≤ 4096; omega))

/-- One of the three stacked weight matrices. -/
abbrev rw (a : Fin 3) : Rect S3x128x1152 :=
  Rect.unit (s := S3x128x1152) ![a.val, 0, 0] ![1, 128, 1152] (inb3 (s := S3x128x1152.size) (by have := a.isLt; show a.val + 1 ≤ 3; omega) (by decide) (by decide))

/-- The scratch rows of one tap, at a column offset. -/
abbrev rt (b : Fin 2) (j : Fin 9) (o : Fin 512) : Rect S2x1152x4608 :=
  Rect.unit (s := S2x1152x4608) ![b.val, 128 * j.val, o.val] ![1, 128, 4096]
    (inb3 (s := S2x1152x4608.size) (by have := b.isLt; show b.val + 1 ≤ 2; omega) (by have := j.isLt; show 128 * j.val + 128 ≤ 1152; omega)
      (by have := o.isLt; show o.val + 4096 ≤ 4608; omega))

/-- The scratch columns of one margin. -/
abbrev rz (b : Fin 2) (k : Fin 2) : Rect S2x1152x4608 :=
  Rect.unit (s := S2x1152x4608) ![b.val, 0, 4352 * k.val] ![1, 1152, 256]
    (inb3 (s := S2x1152x4608.size) (by have := b.isLt; show b.val + 1 ≤ 2; omega) (by decide) (by have := k.isLt; show 4352 * k.val + 256 ≤ 4608; omega))

/-- The scratch columns that a column tile multiplies, for one of the three depth shifts. -/
abbrev rv (b : Fin 2) (t : Fin 4) (a : Fin 3) : Rect S2x1152x4608 :=
  Rect.unit (s := S2x1152x4608) ![b.val, 0, 1024 * t.val + 256 * a.val] ![1, 1152, 1024]
    (inb3 (s := S2x1152x4608.size) (by have := b.isLt; show b.val + 1 ≤ 2; omega) (by decide)
      (by have := t.isLt; have := a.isLt; show 1024 * t.val + 256 * a.val + 1024 ≤ 4608; omega))

/-- The block attention of one batch item: the input plus the projected attention values plus the bias. -/
def att (v : Vec F S1x128x4096 .f32) (wq : Vec F S384x128 .bf16) (wg : Vec F S128x128 .bf16) (bg : Vec F S128x1 .f32) : FVec F S128x4096 .f32 :=
  k0_pay27 (k0_pay2 v) (k0_pay8 v wq)
    (k0_pay24 (k0_pay10 v wq) (k0_pay14 v wq) (k0_pay18 (k0_pay12 v wq)) k0_pay20 (iota .tc S128x128 32 [1] iota_S128x128_d1_w32) 32#32 k0_pay21 k0_pay22)
    wg bg

/-- The stores of the centre tap and of the two zero margins. -/
abbrev base (b : Fin 2) (A : FVec F S128x4096 .f32) (L : List (View.Piece (Elt F) S2x1152x4608 .bf16)) : List (View.Piece (Elt F) S2x1152x4608 .bf16) :=
  ⟨rt b 4 256, k0_pay34 A⟩ :: ⟨rz b 1, k0_pay31⟩ :: ⟨rz b 0, k0_pay31⟩ :: L

/-- The masks keep a position whose row (or column) of the 16×16 plane has the neighbour the tap reads. -/
def maskLo (v : IVec S1x4096 32) : IVec S1x4096 1 := cmpi .sge v (broadcast S1x4096 1#32)
@[inherit_doc maskLo]
def maskHi (v : IVec S1x4096 32) : IVec S1x4096 1 := cmpi .sle v (broadcast S1x4096 14#32)

/-- A masked tap: zero where the mask is off. -/
def masked (msk : IVec S1x4096 1) (v : Vec F S1x128x4096 .bf16) : FVec F S1x128x4096 .bf16 :=
  shapeCast S1x128x4096
    (select (broadcastTo S128x4096 (shapeCast S1x4096 msk shapeCasts_S1x4096_S1x4096) broadcasts_S1x4096_S128x4096)
      (shapeCast S128x4096 v shapeCasts_S1x128x4096_S128x4096) (broadcast S128x4096 (Scalar.ofBits .bf16 0x0000#16 : F .bf16)))
    shapeCasts_S128x4096_S1x128x4096

/-- One more tap stored: a masked shifted load of the centre tap. -/
abbrev tapStep (V : View sig .tc .vmem S2x1152x4608 .bf16) (b : Fin 2) (j : Fin 9) (o : Fin 512) (msk : IVec S1x4096 1)
    (L : List (View.Piece (Elt F) S2x1152x4608 .bf16)) : List (View.Piece (Elt F) S2x1152x4608 .bf16) :=
  ⟨rt b j 256, masked msk (V.readCov L (rt b 4 o).toLoadRect)⟩ :: L

/-- The eight shifted taps of one batch item. -/
abbrev taps (V : View sig .tc .vmem S2x1152x4608 .bf16) (b : Fin 2) (L : List (View.Piece (Elt F) S2x1152x4608 .bf16)) :
    List (View.Piece (Elt F) S2x1152x4608 .bf16) :=
  tapStep V b 8 273 (andi (maskHi k0_pay29) (maskHi k0_pay30)) <|
  tapStep V b 7 272 (maskHi k0_pay29) <|
  tapStep V b 6 271 (andi (maskHi k0_pay29) (maskLo k0_pay30)) <|
  tapStep V b 5 257 (maskHi k0_pay30) <|
  tapStep V b 3 255 (maskLo k0_pay30) <|
  tapStep V b 2 241 (andi (maskLo k0_pay29) (maskHi k0_pay30)) <|
  tapStep V b 1 240 (maskLo k0_pay29) <|
  tapStep V b 0 239 (andi (maskLo k0_pay29) (maskLo k0_pay30)) L

/-- All the stores into the scratch. -/
def scratch (V : View sig .tc .vmem S2x1152x4608 .bf16) (A : Fin 2 → FVec F S128x4096 .f32) : List (View.Piece (Elt F) S2x1152x4608 .bf16) :=
  taps V 1 (taps V 0 (base 1 (A 1) (base 0 (A 0) [])))

/-- One column tile of the convolution of one batch item: the sum of the three depth shifts' products. -/
def tile (V : View sig .tc .vmem S2x1152x4608 .bf16) (b : Fin 2) (w : Fin 3 → Vec F S1x128x1152 .bf16)
    (L : List (View.Piece (Elt F) S2x1152x4608 .bf16)) (t : Fin 4) : FVec F S128x1024 .f32 :=
  k0_pay64 (w 0) (V.readCov L (rv b t 0).toLoadRect) (w 1) (V.readCov L (rv b t 1).toLoadRect) (w 2) (V.readCov L (rv b t 2).toLoadRect)

/-- The sum of a tile's entries. -/
def total (v : FVec F S128x1024 .f32) : F .f32 :=
  extractAt ![0, 0, 0] (shapeCast S1x1x1 (multiReduction .add [1, 2] S1 (shapeCast S1x128x1024 v shapeCasts_S128x1024_S1x128x1024) 0x00000000#32 reduces_S1x128x1024_S1 (.inl rfl) rfl) shapeCasts_S1_S1x1x1) inpos_S1x1x1_p0_0_0

/-- The sum of the four tiles' entries, and of their squares. -/
def sum1 (T : Fin 4 → FVec F S128x1024 .f32) : F .f32 :=
  Scalar.addf (Scalar.addf (Scalar.addf (total (T 0)) (total (T 1))) (total (T 2))) (total (T 3))
@[inherit_doc sum1]
def sum2 (T : Fin 4 → FVec F S128x1024 .f32) : F .f32 :=
  Scalar.addf (Scalar.addf (Scalar.addf (total (mulf (T 0) (T 0))) (total (mulf (T 1) (T 1)))) (total (mulf (T 2) (T 2)))) (total (mulf (T 3) (T 3)))

/-- The normalised tile, scaled, shifted, with the residual added. -/
def pre (gw gb : Vec F S128x1 .f32) (T : Fin 4 → FVec F S128x1024 .f32) (t : Fin 4)
    (E : FVec F S128x1024 .f32) : FVec F S128x1024 .f32 :=
  addf (addf (mulf (mulf (subf (T t) (broadcast S128x1024 (k0_pay93 (sum1 T)))) (broadcast S128x1024 (k0_pay94 (sum1 T) (sum2 T))))
      (broadcastTo S128x1024 (shapeCast S128x1 gw shapeCasts_S128x1_S128x1) broadcasts_S128x1_S128x1024))
    (broadcastTo S128x1024 (shapeCast S128x1 gb shapeCasts_S128x1_S128x1) broadcasts_S128x1_S128x1024)) E

/-- The leaky rectifier, stored. -/
def leaky (v : FVec F S128x1024 .f32) : FVec F S1x128x1024 .f32 :=
  shapeCast S1x128x1024 (select (cmpf .oge v (broadcast S128x1024 (Scalar.ofBits .f32 0x00000000#32 : F .f32))) v
    (mulf (broadcast S128x1024 (Scalar.ofBits .f32 0x3C23D70A#32 : F .f32)) v)) shapeCasts_S128x1024_S1x128x1024

/-- The residual's columns of one tile. -/
def cut (A : FVec F S128x4096 .f32) : Fin 4 → FVec F S128x1024 .f32 :=
  ![extractStridedSlice S128x1024 ![0, 0] A slices_S128x4096_o0_0_S128x1024, extractStridedSlice S128x1024 ![0, 1024] A slices_S128x4096_o0_1024_S128x1024,
    extractStridedSlice S128x1024 ![0, 2048] A slices_S128x4096_o0_2048_S128x1024, extractStridedSlice S128x1024 ![0, 3072] A slices_S128x4096_o0_3072_S128x1024]

section

variable (x : Vec F S2x128x4096 .f32) (wq : Vec F S384x128 .bf16) (wg : Vec F S128x128 .bf16) (bg : Vec F S128x1 .f32)
  (w : Vec F S3x128x1152 .bf16) (gw gb : Vec F S128x1 .f32)

/-- One batch item's attention. -/
def attb (b : Fin 2) : FVec F S128x4096 .f32 := att (View.ld x (rx b)) wq wg bg

/-- One batch item's convolution tiles. -/
def tiles (V : View sig .tc .vmem S2x1152x4608 .bf16) (b : Fin 2) : Fin 4 → FVec F S128x1024 .f32 :=
  tile V b (fun a => View.ld w (rw a)) (scratch V (attb x wq wg bg))

/-- What is stored at one column tile of one batch item. -/
def outTile (V : View sig .tc .vmem S2x1152x4608 .bf16) (b : Fin 2) (t : Fin 4) : FVec F S1x128x1024 .f32 :=
  leaky (pre gw gb (tiles x wq wg bg w V b) t (cut (attb x wq wg bg b) t))

/-- The output stores, last first. -/
def outList (V : View sig .tc .vmem S2x1152x4608 .bf16) : List (View.Piece (Elt F) S2x128x4096 .f32) :=
  [⟨ro 1 3, outTile x wq wg bg w gw gb V 1 3⟩, ⟨ro 1 2, outTile x wq wg bg w gw gb V 1 2⟩, ⟨ro 1 1, outTile x wq wg bg w gw gb V 1 1⟩,
    ⟨ro 1 0, outTile x wq wg bg w gw gb V 1 0⟩, ⟨ro 0 3, outTile x wq wg bg w gw gb V 0 3⟩, ⟨ro 0 2, outTile x wq wg bg w gw gb V 0 2⟩,
    ⟨ro 0 1, outTile x wq wg bg w gw gb V 0 1⟩, ⟨ro 0 0, outTile x wq wg bg w gw gb V 0 0⟩]

end

end Cert.Kern
-- ==== Proof.Model.lean ====
module

public import Idealize.ShloMosaic.PureOps.Ideal.Laws

@[expose] public section

/-! # The block as a function of real numbers

One batch element at a time: channel attention over four heads of 32 channels each, the residual
sum, the 3x3x3 convolution with one zero on each side, and the statistics of its group norm. -/

noncomputable section

namespace Cert.Model

/-- The projections of one batch element: row `r` of the weights against position `n`. -/
def qkv (W : Fin 384 → Fin 128 → ℝ) (X : Fin 128 → Fin 4096 → ℝ) (r : Fin 384) (n : Fin 4096) : ℝ :=
  ∑ c, W r c * X c n

/-- The query row of a channel. -/
abbrev qi (i : Fin 128) : Fin 384 := ⟨i.val, by omega⟩
/-- The key row of a channel. -/
abbrev ki (i : Fin 128) : Fin 384 := ⟨128 + i.val, by omega⟩
/-- The value row of a channel. -/
abbrev vi (i : Fin 128) : Fin 384 := ⟨256 + i.val, by omega⟩

/-- A row's norm, kept above a small positive bound `e`. -/
def nrm (e : ℝ) (Q : Fin 384 → Fin 4096 → ℝ) (r : Fin 384) : ℝ := max (√(∑ n, Q r n * Q r n)) e

/-- The score of two channels: the product of the query and key rows, each over its norm. -/
def score (e : ℝ) (Q : Fin 384 → Fin 4096 → ℝ) (i j : Fin 128) : ℝ :=
  (∑ n, Q (qi i) n * Q (ki j) n) * (nrm e Q (qi i))⁻¹ * (nrm e Q (ki j))⁻¹

/-- Two channels of one head. -/
def same (i j : Fin 128) : Prop := i.val / 32 = j.val / 32

instance (i j : Fin 128) : Decidable (same i j) := inferInstanceAs (Decidable (_ = _))

/-- The attention weights: the softmax of the scores within a head, zero across heads. -/
def weight (e : ℝ) (Q : Fin 384 → Fin 4096 → ℝ) (i j : Fin 128) : ℝ :=
  if same i j then Real.exp (score e Q i j) / ∑ j', (if same i j' then Real.exp (score e Q i j') else 0) else 0

/-- The residual sum: the input, the weighted values through the output projection, and the bias. -/
def att (e : ℝ) (Q : Fin 384 → Fin 4096 → ℝ) (X : Fin 128 → Fin 4096 → ℝ) (W2 : Fin 128 → Fin 128 → ℝ)
    (b2 g : Fin 128 → ℝ) (c : Fin 128) (n : Fin 4096) : ℝ :=
  X c n + (∑ j, (∑ i, g c * W2 c i * weight e Q i j) * Q (vi j) n) + g c * b2 c

/-- Row `c` of an array at any position, zero past its end. -/
def ext (T : Fin 128 → Fin 4096 → ℝ) (c : Fin 128) (k : ℕ) : ℝ := if h : k < 4096 then T c ⟨k, h⟩ else 0

/-- The tap `(p, q)` of channel `c` at column `m` of an array of 256 zero columns, 4096 positions and
    256 zero columns: the position moved by `16 (p - 1) + (q - 1)`, or zero where the second or the third
    coordinate leaves its range. -/
def tap (T : Fin 128 → Fin 4096 → ℝ) (c : Fin 128) (p q m : ℕ) : ℝ :=
  if 256 ≤ m ∧ m < 4352 ∧ (1 ≤ (m - 256) / 16 % 16 + p ∧ (m - 256) / 16 % 16 + p ≤ 16)
      ∧ (1 ≤ (m - 256) % 16 + q ∧ (m - 256) % 16 + q ≤ 16)
    then ext T c (m - 256 + 16 * p + q - 17) else 0

/-- The convolution at output channel `o` and position `n`. -/
def conv (w : Fin 128 → Fin 128 → Fin 3 → Fin 3 → Fin 3 → ℝ) (T : Fin 128 → Fin 4096 → ℝ) (o : Fin 128) (n : Fin 4096) : ℝ :=
  ∑ a : Fin 3, ∑ p : Fin 3, ∑ q : Fin 3, ∑ c, w o c a p q * tap T c p q (256 * a.val + n.val)

/-- The mean of an array over channels and positions. -/
def mean (Y : Fin 128 → Fin 4096 → ℝ) : ℝ := (∑ o, ∑ n, Y o n) / 524288

/-- The variance as the mean of the squares less the square of the mean. -/
def var (Y : Fin 128 → Fin 4096 → ℝ) : ℝ := (∑ o, ∑ n, Y o n * Y o n) / 524288 - mean Y * mean Y

/-- The last step at one element: the normalised convolution with its gain and bias, the residual, and the
    leaky rectifier with slope `s`. -/
def last (y m v e : ℝ) (gw gb : EReal) (t : ℝ) (s : EReal) : EReal :=
  let o : EReal := (((y - m) * (√(v + e))⁻¹ : ℝ) : EReal) * gw + gb + (t : EReal)
  if 0 ≤ o then o else s * o

/-! ## Facts about the model -/

theorem nrm_pos {e : ℝ} (he : 0 < e) (Q : Fin 384 → Fin 4096 → ℝ) (r : Fin 384) : 0 < nrm e Q r :=
  lt_max_of_lt_right he

/-- The variance is the mean of the squared deviations. -/
theorem var_eq (Y : Fin 128 → Fin 4096 → ℝ) :
    (∑ o, ∑ n, (Y o n - mean Y) * (Y o n - mean Y)) / 524288 = var Y := by
  have h : ∀ o n, (Y o n - mean Y) * (Y o n - mean Y) = Y o n * Y o n - 2 * mean Y * Y o n + mean Y * mean Y := by
    intro o n; ring
  simp only [h, Finset.sum_add_distrib, Finset.sum_sub_distrib, ← Finset.mul_sum, Finset.sum_const, Finset.card_univ,
    Fintype.card_fin, nsmul_eq_mul]
  have hm : ∑ o, ∑ n, Y o n = mean Y * 524288 := by unfold mean; ring
  rw [hm]; unfold var; push_cast; ring

theorem var_nonneg (Y : Fin 128 → Fin 4096 → ℝ) : 0 ≤ var Y := by
  rw [← var_eq]
  exact div_nonneg (Finset.sum_nonneg fun o _ => Finset.sum_nonneg fun n _ => mul_self_nonneg _) (by norm_num)

/-- The score with each factor divided inside the sum. -/
theorem score_eq (e : ℝ) (Q : Fin 384 → Fin 4096 → ℝ) (i j : Fin 128) :
    ∑ n, Q (qi i) n / nrm e Q (qi i) * (Q (ki j) n / nrm e Q (ki j)) = score e Q i j := by
  unfold score
  rw [Finset.sum_mul, Finset.sum_mul]
  exact Finset.sum_congr rfl fun n _ => by ring

/-- A shift of the scores leaves the weights. -/
theorem weight_shift (e : ℝ) (Q : Fin 384 → Fin 4096 → ℝ) (M : ℝ) (i j : Fin 128) :
    (if same i j then Real.exp (score e Q i j - M) else 0) /
      ∑ j', (if same i j' then Real.exp (score e Q i j' - M) else 0) = weight e Q i j := by
  have h : ∀ j', (if same i j' then Real.exp (score e Q i j' - M) else 0)
      = (if same i j' then Real.exp (score e Q i j') else 0) * (Real.exp M)⁻¹ := by
    intro j'; split
    · rw [Real.exp_sub]; rfl
    · simp
  simp only [h, ← Finset.sum_mul]
  rw [mul_div_mul_right _ _ (inv_ne_zero (Real.exp_pos M).ne')]
  unfold weight
  split <;> simp

/-- The sum of a head's exponentials is positive. -/
theorem expsum_pos (i : Fin 128) (f : Fin 128 → ℝ) : 0 < ∑ j', (if same i j' then Real.exp (f j') else 0) :=
  Finset.sum_pos' (fun j _ => by split <;> [exact (Real.exp_pos _).le; exact le_rfl])
    ⟨i, Finset.mem_univ _, by rw [if_pos (show same i i from rfl)]; exact Real.exp_pos _⟩

/-- Channel `32 h + d` of head `h`. -/
abbrev ch (h : Fin 4) (d : Fin 32) : Fin 128 := ⟨32 * h.val + d.val, by omega⟩

/-- A sum over the channels of one head. -/
theorem sum_same (h : Fin 4) (d : Fin 32) (f : Fin 128 → ℝ) :
    ∑ j, (if same (ch h d) j then f j else 0) = ∑ e, f (ch h e) := by
  rw [← (finProdFinEquiv (m := 4) (n := 32)).sum_comp, Fintype.sum_prod_type]
  have hs : ∀ (h' : Fin 4) (e : Fin 32), same (ch h d) (finProdFinEquiv (h', e)) ↔ h' = h := by
    intro h' e
    simp only [same, ch, finProdFinEquiv_apply_val, Fin.ext_iff]; omega
  simp only [hs]
  rw [Finset.sum_eq_single h]
  · refine Finset.sum_congr rfl fun e _ => ?_
    rw [if_pos rfl]; congr 1; ext; simp only [finProdFinEquiv_apply_val]; omega
  · intro b _ hb; simp [hb]
  · simp

/-- A sum over all channels, head by head. -/
theorem sum_heads (f : Fin 128 → ℝ) : ∑ j, f j = ∑ h : Fin 4, ∑ d : Fin 32, f (ch h d) := by
  rw [← (finProdFinEquiv (m := 4) (n := 32)).sum_comp, Fintype.sum_prod_type]
  refine Finset.sum_congr rfl fun h _ => Finset.sum_congr rfl fun e _ => ?_
  congr 1; ext; simp only [finProdFinEquiv_apply_val]; omega

/-- The weights within a head, over the head's channels. -/
theorem weight_head (e : ℝ) (Q : Fin 384 → Fin 4096 → ℝ) (M : ℝ) (h : Fin 4) (d d' : Fin 32) :
    Real.exp (score e Q (ch h d) (ch h d') - M) / ∑ k, Real.exp (score e Q (ch h d) (ch h k) - M)
      = weight e Q (ch h d) (ch h d') := by
  rw [← weight_shift e Q M, if_pos (show same _ _ by simp only [same, ch]; omega),
    sum_same h d fun j => Real.exp (score e Q (ch h d) j - M)]

/-- The weighted values of a channel, over its head alone. -/
theorem values_head (e : ℝ) (Q : Fin 384 → Fin 4096 → ℝ) (h : Fin 4) (d : Fin 32) (n : Fin 4096) :
    ∑ k, weight e Q (ch h d) (ch h k) * Q (vi (ch h k)) n = ∑ j, weight e Q (ch h d) j * Q (vi j) n := by
  rw [← sum_same h d fun j => weight e Q (ch h d) j * Q (vi j) n]
  refine Finset.sum_congr rfl fun j _ => ?_
  split
  · rfl
  · rename_i hn; rw [weight, if_neg hn, zero_mul]

/-- The residual sum with the weights applied to the values first. -/
theorem att_eq (e : ℝ) (Q : Fin 384 → Fin 4096 → ℝ) (X : Fin 128 → Fin 4096 → ℝ) (W2 : Fin 128 → Fin 128 → ℝ)
    (b2 g : Fin 128 → ℝ) (c : Fin 128) (n : Fin 4096) :
    X c n + g c * ((∑ i, (∑ j, weight e Q i j * Q (vi j) n) * W2 c i) + b2 c) = att e Q X W2 b2 g c n := by
  unfold att
  rw [mul_add, add_assoc]
  congr 2
  rw [Finset.mul_sum]
  simp only [Finset.sum_mul, Finset.mul_sum]
  rw [Finset.sum_comm]
  exact Finset.sum_congr rfl fun j _ => Finset.sum_congr rfl fun i _ => by ring

end Cert.Model

end
-- ==== Proof.Scalars.lean ====
module

public import proofs.«01_k».proof.Proof.Model
public import Idealize.ShloMosaic.Lib.Pointwise

@[expose] public section

/-! The scalar constants and a few facts on extended reals that both programs use, and the result as a function of real arguments. -/

noncomputable section

namespace Cert.Model

open Idealize.ShloMosaic

/-- The bound below the norms. -/
def eps : ℝ := 9223372 / 2 ^ 63

theorem eps_pos : 0 < eps := by unfold eps; positivity

theorem ofBits_eps : Ideal.ofBits .f32 0x2B8CBCCC#32 = ((eps : ℝ) : EReal) := by
  unfold eps
  simp [Ideal.ofBits, Ideal.ieee, -EReal.coe_mul]; norm_num

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Division of reals by a nonzero real. -/
theorem div_real (a b : ℝ) (h : b ≠ 0) : Ideal.div (a : EReal) (b : EReal) = ((a / b : ℝ) : EReal) := by
  simp [Ideal.div, h, div_eq_mul_inv, ← EReal.coe_inv]

/-- A norm kept above `eps`. -/
theorem norm_at {ι : Type} [Fintype ι] (f : ι → ℝ) :
    max (Ideal.sqrt ((∑ n, f n * f n : ℝ) : EReal)) ((eps : ℝ) : EReal) = ((max (√(∑ n, f n * f n)) eps : ℝ) : EReal) := by
  have h0 : (0 : ℝ) ≤ ∑ n, f n * f n := Finset.sum_nonneg fun n _ => mul_self_nonneg _
  rw [Ideal.sqrt_coe, if_neg (not_lt.mpr h0)]
  exact (EReal.coe_strictMono.monotone.map_max (a := √(∑ n, f n * f n)) (b := eps)).symm

/-- One over a norm kept above `eps`. -/
theorem inv_norm {ι : Type} [Fintype ι] (f : ι → ℝ) :
    Ideal.div 1 (max (Ideal.sqrt ((∑ n, f n * f n : ℝ) : EReal)) ((eps : ℝ) : EReal)) = (((max (√(∑ n, f n * f n)) eps)⁻¹ : ℝ) : EReal) := by
  have h0 : (0 : ℝ) ≤ ∑ n, f n * f n := Finset.sum_nonneg fun n _ => mul_self_nonneg _
  have hp : max (√(∑ n, f n * f n)) eps ≠ 0 := (lt_max_of_lt_right eps_pos).ne'
  rw [Ideal.sqrt_coe, if_neg (not_lt.mpr h0), ← (EReal.coe_strictMono.monotone.map_max (a := √(∑ n, f n * f n)) (b := eps))]
  simp [Ideal.div, hp, ← EReal.coe_inv]

/-- The largest of finitely many reals and minus infinities, with a real among them, is real. -/
theorem fold_max_real {ι : Type} [Fintype ι] (f : ι → EReal) (h : ∀ j, f j = ⊥ ∨ ∃ r : ℝ, f j = r) (i : ι) (hi : ∃ r : ℝ, f i = r) :
    ∃ M : ℝ, Finset.univ.fold max ⊥ f = M := by
  classical
  have hs : ∀ s : Finset ι, s.fold max ⊥ f = ⊥ ∨ ∃ r : ℝ, s.fold max ⊥ f = r := by
    intro s
    induction s using Finset.induction_on with
    | empty => left; simp
    | insert a s ha ih =>
      rw [Finset.fold_insert ha]
      rcases max_choice (f a) (s.fold max ⊥ f) with e | e <;> rw [e]
      · exact h a
      · exact ih
  rcases hs Finset.univ with e | e
  · obtain ⟨r, hr⟩ := hi
    have : f i ≤ Finset.univ.fold max ⊥ f := (Finset.le_fold_max _).mpr (.inr ⟨i, Finset.mem_univ _, le_rfl⟩)
    rw [e, hr] at this
    exact absurd (le_bot_iff.mp this) (EReal.coe_ne_bot r)
  · exact e

theorem ofBits_bot : (Ideal.ofBits .f32 0xFF800000#32) = ⊥ := by simp [Ideal.ofBits, Ideal.ieee]

/-- The variance's added bound. -/
def eps5 : ℝ := 10995116 / 2 ^ 40

theorem eps5_pos : 0 < eps5 := by unfold eps5; positivity

theorem ofBits_eps5 : Ideal.ofBits .f32 0x3727C5AC#32 = ((eps5 : ℝ) : EReal) := by
  unfold eps5
  simp [Ideal.ofBits, Ideal.ieee, -EReal.coe_mul]; norm_num

theorem ofBits_count : Ideal.ofBits .f32 0x49000000#32 = ((524288 : ℝ) : EReal) := by
  simp [Ideal.ofBits, Ideal.ieee, -EReal.coe_mul]; norm_num

/-- Position `n` of a volume of 16 × 16 × 16. -/
abbrev vol (b : Fin 2) (k : Fin 128) (n : Fin 4096) : (⟨5, ![2, 128, 16, 16, 16]⟩ : Shape).Idx :=
  ix5 b k (⟨n.val / 256, by omega⟩ : Fin 16) (⟨n.val / 16 % 16, by omega⟩ : Fin 16) (⟨n.val % 16, by omega⟩ : Fin 16)

section

variable (x0 : (⟨5, ![2, 128, 16, 16, 16]⟩ : Shape).Idx → ℝ) (x1 : (⟨2, ![512, 128]⟩ : Shape).Idx → ℝ) (x4 : (⟨2, ![128, 128]⟩ : Shape).Idx → ℝ)
  (x5 x6 : (⟨1, ![128]⟩ : Shape).Idx → ℝ) (x7 : (⟨5, ![128, 128, 3, 3, 3]⟩ : Shape).Idx → ℝ)
  (gw gb : (⟨1, ![128]⟩ : Shape).Idx → EReal)

/-- The input of one batch item. -/
def argX (b : Fin 2) (k : Fin 128) (n : Fin 4096) : ℝ := x0 (vol b k n)

/-- The rows of the projection that the result depends on: queries, keys and channel values. -/
def argW (r : Fin 384) (k : Fin 128) : ℝ := x1 (ix2 (⟨r.val, by omega⟩ : Fin 512) k)

/-- The attention and residual sum of one batch item. -/
def sumT (b : Fin 2) : Fin 128 → Fin 4096 → ℝ :=
  att eps (qkv (argW x1) (argX x0 b)) (argX x0 b) (fun k i => x4 (ix2 k i)) (fun k => x5 (ix1 k)) (fun k => x6 (ix1 k))

/-- The convolution of one batch item. -/
def convY (b : Fin 2) : Fin 128 → Fin 4096 → ℝ := conv (fun o k a p q => x7 (ix5 o k a p q)) (sumT x0 x1 x4 x5 x6 b)

/-- The result at one element. -/
def result (b : Fin 2) (o : Fin 128) (n : Fin 4096) : EReal :=
  last (convY x0 x1 x4 x5 x6 x7 b o n) (mean (convY x0 x1 x4 x5 x6 x7 b)) (var (convY x0 x1 x4 x5 x6 x7 b)) eps5
    (gw (ix1 o)) (gb (ix1 o)) (sumT x0 x1 x4 x5 x6 b o n) (Ideal.ofBits .f32 0x3C23D70A#32)

end

end Cert.Model
-- ==== Proof.ValueA.lean ====
module

public import proofs.«01_k».proof.Proof.Kernel
public import proofs.«01_k».proof.Proof.Scalars
public import Idealize.ShloMosaic.Lib.Pointwise

@[expose] public section

set_option maxRecDepth 16384

/-! The kernel's attention, element by element over the reals. -/

noncomputable section

namespace Cert.Kern

open Cert.KernelIdeal Cert.KernelIdeal.Gen Idealize.ShloMosaic Idealize.ShloMosaic.TcCoe Idealize.SL.Sem Cert.Model

section

variable (v : Vec Ideal S1x128x4096 .f32) (wq : Vec Ideal S384x128 .bf16) (X : Fin 128 → Fin 4096 → ℝ) (W : Fin 384 → Fin 128 → ℝ)
  (hx : ∀ c n, v (ix3 0 c n) = ((X c n : ℝ) : EReal)) (hw : ∀ r c, wq (ix2 r c) = ((W r c : ℝ) : EReal))

include hx hw

theorem pay4_at (r : Fin 384) (n : Fin 4096) : k0_pay4 v wq (ix2 r n) = ((qkv W X r n : ℝ) : EReal) := by
  pointwise [k0_pay4, k0_pay2]
  simp only [hx, hw, qkv, coe_sum, EReal.coe_mul]

theorem pay6_at (r : Fin 384) (n : Fin 4096) : k0_pay6 v wq (ix2 r n) = ((qkv W X r n : ℝ) : EReal) := by
  rw [← pay4_at v wq X W hx hw]
  pointwise [k0_pay6]

theorem pay8_at (r : Fin 128) (n : Fin 4096) : k0_pay8 v wq (ix2 r n) = ((qkv W X (vi r) n : ℝ) : EReal) := by
  rw [← pay6_at v wq X W hx hw]
  pointwise [k0_pay8]

theorem pay10_at (i j : Fin 128) : k0_pay10 v wq (ix2 i j) = ((∑ n, qkv W X (qi i) n * qkv W X (ki j) n : ℝ) : EReal) := by
  pointwise [k0_pay10]
  simp only [pay6_at v wq X W hx hw, coe_sum, EReal.coe_mul]

theorem pay12_at (r : Fin 256) : k0_pay12 v wq (ix2 r 0) = ((∑ n, qkv W X ⟨r.val, by omega⟩ n * qkv W X ⟨r.val, by omega⟩ n : ℝ) : EReal) := by
  pointwise [k0_pay12]
  simp only [pay4_at v wq X W hx hw, coe_sum, EReal.coe_mul]

theorem pay14_at (i : Fin 128) : k0_pay14 v wq (ix2 i 0) = (((nrm eps (qkv W X) (qi i))⁻¹ : ℝ) : EReal) := by
  pointwise [k0_pay14]
  simp only [pay12_at v wq X W hx hw, ofBits_eps]
  exact inv_norm _

theorem pay18_at (j : Fin 128) : k0_pay18 (k0_pay12 v wq) (ix2 0 j) = (((nrm eps (qkv W X) (ki j))⁻¹ : ℝ) : EReal) := by
  pointwise [k0_pay18]
  simp only [pay12_at v wq X W hx hw, ofBits_eps]
  exact inv_norm _

end

/-- Rounded-down division of a word by 32, as the body computes it. -/
def fl (i : Fin 128) : BitVec 32 :=
  Scalar.select
    (IntOp.andi
      (IntOp.cmpi CmpIPredicate.ne
        (IntOp.subi (BitVec.setWidth 32 (IntOp.cmpi CmpIPredicate.sgt (BitVec.ofNat 32 i.val) 0#32))
          (BitVec.setWidth 32 (IntOp.cmpi CmpIPredicate.slt (BitVec.ofNat 32 i.val) 0#32)))
        (Scalar.subi (Scalar.extui (Scalar.cmpi CmpIPredicate.sgt 32#32 0#32))
          (Scalar.extui (Scalar.cmpi CmpIPredicate.slt 32#32 0#32))))
      (IntOp.cmpi CmpIPredicate.ne (IntOp.remsi ArithUnit.vector (BitVec.ofNat 32 i.val) 32#32) 0#32))
    (IntOp.subi (IntOp.divsi ArithUnit.vector (BitVec.ofNat 32 i.val) 32#32) 1#32)
    (IntOp.divsi ArithUnit.vector (BitVec.ofNat 32 i.val) 32#32)

theorem fl_eq : ∀ i : Fin 128, fl i = BitVec.ofNat 32 (i.val / 32) := by decide +kernel

/-- The mask's bit is on exactly within a head. -/
theorem mask_at (i j : Fin 128) : k0_pay23 k0_pay20 (iota .tc S128x128 32 [1] iota_S128x128_d1_w32) 32#32 k0_pay21 k0_pay22 (ix2 i j)
    = if same i j then 1#1 else 0#1 := by
  pointwise [k0_pay23, k0_pay20, k0_pay21, k0_pay22]
  show IntOp.cmpi CmpIPredicate.eq (fl i) (fl j) = _
  rw [fl_eq, fl_eq]
  by_cases h : i.val / 32 = j.val / 32
  · rw [if_pos (show same i j from h), h]; simp [IntOp.cmpi]
  · rw [if_neg (show ¬ same i j from h)]
    have : ¬ BitVec.ofNat 32 (i.val / 32) = BitVec.ofNat 32 (j.val / 32) := by
      intro e
      have := congrArg BitVec.toNat e
      simp only [BitVec.toNat_ofNat] at this
      omega
    simp [IntOp.cmpi, this, beq_eq_false_iff_ne.mpr this]

/-- The mask's constant stands for minus infinity. -/
theorem mask_bot : (Named.named κ "mask" 0xF149F2CA#32 : Ideal .f32) = ⊥ :=
  (IdealRules.named_const.ideal_named_scalar _ _ _ _ rfl).trans (by simp)

section

variable (s : FVec Ideal S128x128 .f32) (p : FVec Ideal S128x1 .f32) (q : FVec Ideal S1x128 .f32) (Q : Fin 384 → Fin 4096 → ℝ)
  (hs : ∀ i j, s (ix2 i j) = ((∑ n, Q (qi i) n * Q (ki j) n : ℝ) : EReal)) (hp : ∀ i, p (ix2 i 0) = (((nrm eps Q (qi i))⁻¹ : ℝ) : EReal))
  (hq : ∀ j, q (ix2 0 j) = (((nrm eps Q (ki j))⁻¹ : ℝ) : EReal))

include hs hp hq

theorem pay24_at (i j : Fin 128) : k0_pay24 s p q k0_pay20 (iota .tc S128x128 32 [1] iota_S128x128_d1_w32) 32#32 k0_pay21 k0_pay22 (ix2 i j)
    = ((weight eps Q i j : ℝ) : EReal) := by
  pointwise [k0_pay24]
  have hm := mask_at
  have hsel : ∀ (r : ℝ) (j : Fin 128), Scalar.select (if same i j then 1#1 else 0#1) ((r : ℝ) : EReal) (⊥ : EReal)
      = if same i j then ((r : ℝ) : EReal) else ⊥ := by
    intro r j; by_cases h : same i j <;> simp [h, Scalar.select]
  have hsc : ∀ j, (∑ n, Q (qi i) n * Q (ki j) n) * (nrm eps Q (qi i))⁻¹ * (nrm eps Q (ki j))⁻¹ = score eps Q i j := fun j => rfl
  simp only [hm, hs, hp, hq, ← EReal.coe_mul, mask_bot, ofBits_bot, hsel, hsc]
  obtain ⟨M, hM⟩ := fold_max_real (fun j => if same i j then ((score eps Q i j : ℝ) : EReal) else ⊥)
    (fun j => by by_cases h : same i j <;> simp [h]) i ⟨score eps Q i i, if_pos rfl⟩
  have he : ∀ j, Ideal.exp ((if same i j then ((score eps Q i j : ℝ) : EReal) else ⊥) - (M : EReal))
      = (((if same i j then Real.exp (score eps Q i j - M) else 0 : ℝ)) : EReal) := by
    intro j
    by_cases h : same i j
    · rw [if_pos h, if_pos h, ← EReal.coe_sub]; rfl
    · rw [if_neg h, if_neg h]; simp
  rw [hM]
  simp only [he]
  rw [← coe_sum, div_real _ _ (expsum_pos i _).ne', weight_shift]

end

section

variable (x : FVec Ideal S128x4096 .f32) (vv : FVec Ideal S128x4096 .bf16) (wt : FVec Ideal S128x128 .f32) (wg : Vec Ideal S128x128 .bf16) (bg : Vec Ideal S128x1 .f32)
  (Q : Fin 384 → Fin 4096 → ℝ) (X : Fin 128 → Fin 4096 → ℝ) (W2 : Fin 128 → Fin 128 → ℝ) (b2 g : Fin 128 → ℝ)
  (hx : ∀ c n, x (ix2 c n) = ((X c n : ℝ) : EReal)) (hv : ∀ c n, vv (ix2 c n) = ((Q (vi c) n : ℝ) : EReal))
  (hwt : ∀ i j, wt (ix2 i j) = ((weight eps Q i j : ℝ) : EReal)) (hwg : ∀ c i, wg (ix2 c i) = ((g c * W2 c i : ℝ) : EReal))
  (hbg : ∀ c, bg (ix2 c 0) = ((g c * b2 c : ℝ) : EReal))

include hx hv hwt hwg hbg

theorem pay27_at (c : Fin 128) (n : Fin 4096) : k0_pay27 x vv wt wg bg (ix2 c n) = ((Model.att eps Q X W2 b2 g c n : ℝ) : EReal) := by
  pointwise [k0_pay27]
  simp only [hx, hv, hwt, hwg, hbg, Model.att, coe_sum, EReal.coe_mul, EReal.coe_add]
  trace_state

end

/-- One batch item's attention and residual sum. -/
theorem att_at (v : Vec Ideal S1x128x4096 .f32) (wq : Vec Ideal S384x128 .bf16) (wg : Vec Ideal S128x128 .bf16) (bg : Vec Ideal S128x1 .f32)
    (X : Fin 128 → Fin 4096 → ℝ) (W : Fin 384 → Fin 128 → ℝ) (W2 : Fin 128 → Fin 128 → ℝ) (b2 g : Fin 128 → ℝ)
    (hx : ∀ c n, v (ix3 0 c n) = ((X c n : ℝ) : EReal)) (hw : ∀ r c, wq (ix2 r c) = ((W r c : ℝ) : EReal))
    (hwg : ∀ c i, wg (ix2 c i) = ((g c * W2 c i : ℝ) : EReal)) (hbg : ∀ c, bg (ix2 c 0) = ((g c * b2 c : ℝ) : EReal)) (c : Fin 128) (n : Fin 4096) :
    att v wq wg bg (ix2 c n) = ((Model.att eps (qkv W X) X W2 b2 g c n : ℝ) : EReal) := by
  refine pay27_at _ _ _ _ _ (qkv W X) X W2 b2 g ?_ ?_ ?_ hwg hbg c n
  · intro c n
    pointwise [k0_pay2]
    exact hx c n
  · exact pay8_at v wq X W hx hw
  · exact pay24_at _ _ _ (qkv W X) (pay10_at v wq X W hx hw) (pay14_at v wq X W hx hw) (pay18_at v wq X W hx hw)

end Cert.Kern
-- ==== Proof.Scratch.lean ====
module

public import proofs.«01_k».proof.Proof.ValueA

@[expose] public section

set_option maxRecDepth 16384

/-! What the scratch holds once every tap is stored: nine shifted and masked copies of each batch item's rows, with zero margins. -/

noncomputable section

namespace Cert.Kern

open Cert.KernelIdeal Cert.KernelIdeal.Gen Idealize.ShloMosaic Idealize.ShloMosaic.TcCoe Idealize.SL.Sem Cert.Model

variable (T : Fin 2 → Fin 128 → Fin 4096 → ℝ)

/-- Row `r`, column `m` of one batch item's scratch. -/
def Zr (b : Fin 2) (r m : ℕ) : ℝ := tap (T b) ⟨r % 128, by omega⟩ (r / 128 / 3) (r / 128 % 3) m

/-- The whole scratch. -/
def Z (y : S2x1152x4608.Idx) : EReal := ((Zr T (y 0) (y 1).val (y 2).val : ℝ) : EReal)

theorem Z_rt (b : Fin 2) (j : Fin 9) (o : Fin 512) (c : Fin 128) (n : Fin 4096) :
    Z T ((rt b j o).idx (ix3 0 c n)) = ((Zr T b (128 * j.val + c.val) (o.val + n.val) : ℝ) : EReal) := by
  have h0 : (rt b j o).idx (ix3 0 c n) 0 = b := Fin.ext (show b.val + 1 * 0 = b.val by omega)
  have h1 : ((rt b j o).idx (ix3 0 c n) 1).val = 128 * j.val + c.val := show 128 * j.val + 1 * c.val = _ by omega
  have h2 : ((rt b j o).idx (ix3 0 c n) 2).val = o.val + n.val := show o.val + 1 * n.val = _ by omega
  unfold Z
  rw [h0, h1, h2]

theorem Z_rz (b : Fin 2) (k : Fin 2) (r : Fin 1152) (n : Fin 256) :
    Z T ((rz b k).idx (ix3 0 r n)) = ((Zr T b r.val (4352 * k.val + n.val) : ℝ) : EReal) := by
  have h0 : (rz b k).idx (ix3 0 r n) 0 = b := Fin.ext (show b.val + 1 * 0 = b.val by omega)
  have h1 : ((rz b k).idx (ix3 0 r n) 1).val = r.val := show 0 + 1 * r.val = _ by omega
  have h2 : ((rz b k).idx (ix3 0 r n) 2).val = 4352 * k.val + n.val := show 4352 * k.val + 1 * n.val = _ by omega
  unfold Z
  rw [h0, h1, h2]

theorem Z_rv (b : Fin 2) (t : Fin 4) (a : Fin 3) (r : Fin 1152) (n : Fin 1024) :
    Z T ((rv b t a).idx (ix3 0 r n)) = ((Zr T b r.val (1024 * t.val + 256 * a.val + n.val) : ℝ) : EReal) := by
  have h0 : (rv b t a).idx (ix3 0 r n) 0 = b := Fin.ext (show b.val + 1 * 0 = b.val by omega)
  have h1 : ((rv b t a).idx (ix3 0 r n) 1).val = r.val := show 0 + 1 * r.val = _ by omega
  have h2 : ((rv b t a).idx (ix3 0 r n) 2).val = 1024 * t.val + 256 * a.val + n.val :=
    show 1024 * t.val + 256 * a.val + 1 * n.val = _ by omega
  unfold Z
  rw [h0, h1, h2]

/-- The margins of the scratch are zero. -/
theorem Zr_margin (b : Fin 2) (r m : ℕ) (h : m < 256 ∨ 4352 ≤ m) : Zr T b r m = 0 := by
  unfold Zr tap
  rw [if_neg (by omega)]

/-- The centre tap is the rows themselves. -/
theorem Zr_centre (b : Fin 2) (c : Fin 128) (n : Fin 4096) : Zr T b (512 + c.val) (256 + n.val) = T b c n := by
  have hc := c.isLt
  have hn := n.isLt
  have e1 : (⟨(512 + c.val) % 128, by omega⟩ : Fin 128) = c := Fin.ext (by show (512 + c.val) % 128 = c.val; omega)
  have e2 : (512 + c.val) / 128 / 3 = 1 := by omega
  have e3 : (512 + c.val) / 128 % 3 = 1 := by omega
  unfold Zr tap ext
  rw [e1, e2, e3, if_pos (by omega), dif_pos (by omega)]
  exact congrArg (T b c) (Fin.ext (by show 256 + n.val - 256 + 16 * 1 + 1 - 17 = n.val; omega))

/-- The positions at which a tap reads a neighbour inside the plane. -/
def inPlane (p q : Fin 3) (n : ℕ) : Prop := (1 ≤ n / 16 % 16 + p.val ∧ n / 16 % 16 + p.val ≤ 16) ∧ (1 ≤ n % 16 + q.val ∧ n % 16 + q.val ≤ 16)

/-- A tap away from the centre: the centre tap at a shifted column, where the neighbour is in the plane. -/
theorem Zr_tap (b : Fin 2) (p q : Fin 3) (c : Fin 128) (n : Fin 4096) :
    (inPlane p q n.val → Zr T b (128 * (3 * p.val + q.val) + c.val) (256 + n.val) = Zr T b (512 + c.val) (239 + 16 * p.val + q.val + n.val)) ∧
    (¬ inPlane p q n.val → Zr T b (128 * (3 * p.val + q.val) + c.val) (256 + n.val) = 0) := by
  have hc := c.isLt
  have hn := n.isLt
  have hp := p.isLt
  have hq := q.isLt
  have e1 : (⟨(128 * (3 * p.val + q.val) + c.val) % 128, by omega⟩ : Fin 128) = c := Fin.ext (by show (128 * (3 * p.val + q.val) + c.val) % 128 = c.val; omega)
  have e2 : (128 * (3 * p.val + q.val) + c.val) / 128 / 3 = p.val := by omega
  have e3 : (128 * (3 * p.val + q.val) + c.val) / 128 % 3 = q.val := by omega
  have e4 : (⟨(512 + c.val) % 128, by omega⟩ : Fin 128) = c := Fin.ext (by show (512 + c.val) % 128 = c.val; omega)
  have e5 : (512 + c.val) / 128 / 3 = 1 := by omega
  have e6 : (512 + c.val) / 128 % 3 = 1 := by omega
  unfold Zr tap inPlane
  rw [e1, e2, e3, e4, e5, e6]
  have e7 : 256 + n.val - 256 = n.val := by omega
  rw [e7]
  refine ⟨fun h => ?_, fun h => ?_⟩
  · rw [if_pos (by omega)]
    by_cases hr : 256 ≤ 239 + 16 * p.val + q.val + n.val ∧ 239 + 16 * p.val + q.val + n.val < 4352
    · rw [if_pos (by omega)]
      congr 1; omega
    · have h' : 4096 ≤ n.val + 16 * p.val + q.val - 17 := by
        rcases (show p.val = 0 ∨ p.val = 1 ∨ p.val = 2 by omega) with e | e | e <;>
          rcases (show q.val = 0 ∨ q.val = 1 ∨ q.val = 2 by omega) with e' | e' | e' <;> rw [e, e'] at hr h ⊢ <;> omega
      rw [if_neg (by omega), ext, dif_neg (by omega)]
  · rw [if_neg (by omega)]

theorem word29 : ∀ n : Fin 4096, IntOp.andi (IntOp.shrsi ArithUnit.vector (BitVec.ofNat 32 n.val) 4#32) 15#32 = BitVec.ofNat 32 (n.val / 16 % 16) := by
  decide +kernel

theorem word30 : ∀ n : Fin 4096, IntOp.andi (BitVec.ofNat 32 n.val) 15#32 = BitVec.ofNat 32 (n.val % 16) := by
  decide +kernel

theorem pay29_at (n : Fin 4096) : k0_pay29 (ix2 0 n) = BitVec.ofNat 32 (n.val / 16 % 16) := by
  pointwise [k0_pay29]
  exact word29 n

theorem pay30_at (n : Fin 4096) : k0_pay30 (ix2 0 n) = BitVec.ofNat 32 (n.val % 16) := by
  pointwise [k0_pay30]
  exact word30 n

theorem word_lo : ∀ k : Fin 16, IntOp.cmpi CmpIPredicate.sge (BitVec.ofNat 32 k.val) 1#32 = 1#1 ↔ 1 ≤ k.val := by decide +kernel
theorem word_hi : ∀ k : Fin 16, IntOp.cmpi CmpIPredicate.sle (BitVec.ofNat 32 k.val) 14#32 = 1#1 ↔ k.val ≤ 14 := by decide +kernel

theorem lo29 (n : Fin 4096) : maskLo k0_pay29 (ix2 0 n) = 1#1 ↔ 1 ≤ n.val / 16 % 16 := by
  pointwise [maskLo]
  rw [pay29_at]
  exact word_lo ⟨n.val / 16 % 16, by omega⟩

theorem hi29 (n : Fin 4096) : maskHi k0_pay29 (ix2 0 n) = 1#1 ↔ n.val / 16 % 16 ≤ 14 := by
  pointwise [maskHi]
  rw [pay29_at]
  exact word_hi ⟨n.val / 16 % 16, by omega⟩

theorem lo30 (n : Fin 4096) : maskLo k0_pay30 (ix2 0 n) = 1#1 ↔ 1 ≤ n.val % 16 := by
  pointwise [maskLo]
  rw [pay30_at]
  exact word_lo ⟨n.val % 16, by omega⟩

theorem hi30 (n : Fin 4096) : maskHi k0_pay30 (ix2 0 n) = 1#1 ↔ n.val % 16 ≤ 14 := by
  pointwise [maskHi]
  rw [pay30_at]
  exact word_hi ⟨n.val % 16, by omega⟩

theorem and_bit : ∀ a b : BitVec 1, IntOp.andi a b = 1#1 ↔ a = 1#1 ∧ b = 1#1 := by decide

theorem andi_at (a b : IVec S1x4096 1) (n : Fin 4096) : andi a b (ix2 0 n) = 1#1 ↔ a (ix2 0 n) = 1#1 ∧ b (ix2 0 n) = 1#1 := and_bit _ _

theorem masked_at (msk : IVec S1x4096 1) (v : Vec Ideal S1x128x4096 .bf16) (c : Fin 128) (n : Fin 4096) :
    masked (F := Ideal) msk v (ix3 0 c n) = if msk (ix2 0 n) = 1#1 then v (ix3 0 c n) else 0 := by
  pointwise [masked]
  rfl

section

variable (V : View sig .tc .vmem S2x1152x4608 .bf16) (b : Fin 2) (L : List (View.Piece (Elt Ideal) S2x1152x4608 .bf16))

/-- A list of stores covers a batch item's centre tap, margins included. -/
def Centre (b : Fin 2) (L : List (View.Piece (Elt Ideal) S2x1152x4608 .bf16)) : Prop :=
  ∀ y : S2x1152x4608.Idx, y 0 = b → 512 ≤ (y 1).val → (y 1).val < 640 → ∃ p ∈ L, y ∈ p.1.set

theorem Centre.cons {b : Fin 2} {L : List (View.Piece (Elt Ideal) S2x1152x4608 .bf16)} (h : Centre b L) (p : View.Piece (Elt Ideal) S2x1152x4608 .bf16) :
    Centre b (p :: L) := fun y h0 h1 h2 => by
  obtain ⟨q, hq, hy⟩ := h y h0 h1 h2
  exact ⟨q, List.mem_cons_of_mem _ hq, hy⟩

/-- A load of the centre tap at any column offset. -/
theorem read_centre (hL : View.PiecesOf (Z T) L) (hc : Centre b L) (o : Fin 512) (c : Fin 128) (n : Fin 4096) :
    V.readCov L (rt b 4 o).toLoadRect (ix3 0 c n) = ((Zr T b (512 + c.val) (o.val + n.val) : ℝ) : EReal) := by
  rw [View.readCov_eq_canon']
  have h := View.canon_append_of_piecesOf (Z T) [] L hL ((rt b 4 o).idx (ix3 0 c n)) (hc _ (Fin.ext (show b.val + 1 * 0 = b.val by omega))
    (show 512 ≤ 512 + 1 * c.val by omega) (show 512 + 1 * c.val < 640 by have := c.isLt; omega))
  rw [List.append_nil] at h
  exact h.trans (Z_rt T b 4 o c n)

/-- One tap more. -/
theorem step (h : View.PiecesOf (Z T) L ∧ Centre b L) (p q : Fin 3) (j : Fin 9) (o : Fin 512) (hj : j.val = 3 * p.val + q.val)
    (ho : o.val = 239 + 16 * p.val + q.val) (msk : IVec S1x4096 1) (hm : ∀ n : Fin 4096, msk (ix2 0 n) = 1#1 ↔ inPlane p q n.val) :
    View.PiecesOf (Z T) (tapStep V b j o msk L) ∧ Centre b (tapStep V b j o msk L) := by
  obtain ⟨hL, hc⟩ := h
  refine ⟨⟨fun x => ?_, hL⟩, hc.cons _⟩
  obtain ⟨c, n, rfl⟩ : ∃ (c : Fin 128) (n : Fin 4096), x = ix3 0 c n := ⟨x 1, x 2, by
    rw [eq_ix3 x]; congr 1; exact Subsingleton.elim (α := Fin 1) _ _⟩
  refine (masked_at msk _ c n).trans (.trans ?_ (Z_rt T b j 256 c n).symm)
  rw [read_centre T V b L hL hc o c n, hj, ho]
  obtain ⟨h1, h2⟩ := Zr_tap T b p q c n
  by_cases h : inPlane p q n.val
  · rw [if_pos ((hm n).mpr h)]; exact congrArg _ (h1 h).symm
  · rw [if_neg (fun e => h ((hm n).mp e))]; exact (congrArg ((↑) : ℝ → EReal) (h2 h)).symm

end

variable (V : View sig .tc .vmem S2x1152x4608 .bf16)

/-- The eight shifted taps of one batch item. -/
theorem taps_pieces (b : Fin 2) (L : List (View.Piece (Elt Ideal) S2x1152x4608 .bf16)) (h : View.PiecesOf (Z T) L ∧ Centre b L) :
    View.PiecesOf (Z T) (taps V b L) ∧ Centre b (taps V b L) := by
  have h0 := step T V b _ h 0 0 0 239 rfl rfl (andi (maskLo k0_pay29) (maskLo k0_pay30)) fun n => by
    rw [andi_at, lo29, lo30]; unfold inPlane; simp only [Fin.val_zero, Fin.val_one, Fin.val_two]; omega
  have h1 := step T V b _ h0 0 1 1 240 rfl rfl (maskLo k0_pay29) fun n => by
    rw [lo29]; unfold inPlane; simp only [Fin.val_zero, Fin.val_one, Fin.val_two]; omega
  have h2 := step T V b _ h1 0 2 2 241 rfl rfl (andi (maskLo k0_pay29) (maskHi k0_pay30)) fun n => by
    rw [andi_at, lo29, hi30]; unfold inPlane; simp only [Fin.val_zero, Fin.val_one, Fin.val_two]; omega
  have h3 := step T V b _ h2 1 0 3 255 rfl rfl (maskLo k0_pay30) fun n => by
    rw [lo30]; unfold inPlane; simp only [Fin.val_zero, Fin.val_one, Fin.val_two]; omega
  have h5 := step T V b _ h3 1 2 5 257 rfl rfl (maskHi k0_pay30) fun n => by
    rw [hi30]; unfold inPlane; simp only [Fin.val_zero, Fin.val_one, Fin.val_two]; omega
  have h6 := step T V b _ h5 2 0 6 271 rfl rfl (andi (maskHi k0_pay29) (maskLo k0_pay30)) fun n => by
    rw [andi_at, hi29, lo30]; unfold inPlane; simp only [Fin.val_zero, Fin.val_one, Fin.val_two]; omega
  have h7 := step T V b _ h6 2 1 7 272 rfl rfl (maskHi k0_pay29) fun n => by
    rw [hi29]; unfold inPlane; simp only [Fin.val_zero, Fin.val_one, Fin.val_two]; omega
  have h8 := step T V b _ h7 2 2 8 273 rfl rfl (andi (maskHi k0_pay29) (maskHi k0_pay30)) fun n => by
    rw [andi_at, hi29, hi30]; unfold inPlane; simp only [Fin.val_zero, Fin.val_one, Fin.val_two]; omega
  exact h8

theorem mem_rz (b : Fin 2) (k : Fin 2) (y : S2x1152x4608.Idx) (h0 : y 0 = b) (h : 4352 * k.val ≤ (y 2).val ∧ (y 2).val < 4352 * k.val + 256) :
    y ∈ (rz b k).set := by
  have hb : (y 0).val = b.val := congrArg Fin.val h0
  have hy1 : (y 1).val < 1152 := (y 1).isLt
  refine Rect.mem_set_unit.mpr fun a => ?_
  fin_cases a
  · show b.val ≤ (y 0).val ∧ (y 0).val < b.val + 1; omega
  · show 0 ≤ (y 1).val ∧ (y 1).val < 0 + 1152; omega
  · exact h

theorem mem_rt (b : Fin 2) (j : Fin 9) (y : S2x1152x4608.Idx) (h0 : y 0 = b) (h1 : (y 1).val / 128 = j.val) (h2 : 256 ≤ (y 2).val ∧ (y 2).val < 4352) :
    y ∈ (rt b j 256).set := by
  have hb : (y 0).val = b.val := congrArg Fin.val h0
  refine Rect.mem_set_unit.mpr fun a => ?_
  fin_cases a
  · show b.val ≤ (y 0).val ∧ (y 0).val < b.val + 1; omega
  · show 128 * j.val ≤ (y 1).val ∧ (y 1).val < 128 * j.val + 128; omega
  · show 256 ≤ (y 2).val ∧ (y 2).val < 256 + 4096; omega

/-- The margins of one batch item. -/
theorem base_cover (b : Fin 2) (A : FVec Ideal S128x4096 .f32) (L : List (View.Piece (Elt Ideal) S2x1152x4608 .bf16)) (y : S2x1152x4608.Idx)
    (h0 : y 0 = b) (h : (y 2).val < 256 ∨ 4352 ≤ (y 2).val) : ∃ p ∈ base b A L, y ∈ p.1.set := by
  have hy2 : (y 2).val < 4608 := (y 2).isLt
  rcases h with h | h
  · exact ⟨_, List.mem_cons_of_mem _ (List.mem_cons_of_mem _ (List.mem_cons_self ..)), by
      exact mem_rz b 0 y h0 (show 4352 * 0 ≤ (y 2).val ∧ (y 2).val < 4352 * 0 + 256 by omega)⟩
  · exact ⟨_, List.mem_cons_of_mem _ (List.mem_cons_self ..), by
      exact mem_rz b 1 y h0 (show 4352 * 1 ≤ (y 2).val ∧ (y 2).val < 4352 * 1 + 256 by omega)⟩

/-- The centre tap and the margins of one batch item. -/
theorem base_pieces (b : Fin 2) (A : FVec Ideal S128x4096 .f32) (hA : ∀ c n, A (ix2 c n) = ((T b c n : ℝ) : EReal))
    (L : List (View.Piece (Elt Ideal) S2x1152x4608 .bf16)) (hL : View.PiecesOf (Z T) L) :
    View.PiecesOf (Z T) (base b A L) ∧ Centre b (base b A L) := by
  refine ⟨⟨fun x => ?_, fun x => ?_, fun x => ?_, hL⟩, fun y h0 h1 h2 => ?_⟩
  · obtain ⟨c, n, rfl⟩ : ∃ (c : Fin 128) (n : Fin 4096), x = ix3 0 c n := ⟨x 1, x 2, by
      rw [eq_ix3 x]; congr 1; exact Subsingleton.elim (α := Fin 1) _ _⟩
    refine .trans ?_ (Z_rt T b 4 256 c n).symm
    rw [show (128 * (4 : Fin 9).val + c.val) = 512 + c.val from rfl, show ((256 : Fin 512).val + n.val) = 256 + n.val from rfl, Zr_centre, ← hA]
    pointwise [k0_pay34]
  · obtain ⟨r, n, rfl⟩ : ∃ (r : Fin 1152) (n : Fin 256), x = ix3 0 r n := ⟨x 1, x 2, by
      rw [eq_ix3 x]; congr 1; exact Subsingleton.elim (α := Fin 1) _ _⟩
    refine .trans ?_ (Z_rz T b 1 r n).symm
    rw [Zr_margin T b _ _ (.inr (show 4352 ≤ 4352 * (1 : Fin 2).val + n.val by show 4352 ≤ 4352 * 1 + n.val; omega))]
    pointwise [k0_pay31]
    rfl
  · obtain ⟨r, n, rfl⟩ : ∃ (r : Fin 1152) (n : Fin 256), x = ix3 0 r n := ⟨x 1, x 2, by
      rw [eq_ix3 x]; congr 1; exact Subsingleton.elim (α := Fin 1) _ _⟩
    refine .trans ?_ (Z_rz T b 0 r n).symm
    rw [Zr_margin T b _ _ (.inl (show 4352 * (0 : Fin 2).val + n.val < 256 by have := n.isLt; show 4352 * 0 + n.val < 256; omega))]
    pointwise [k0_pay31]
    rfl
  · by_cases e : (y 2).val < 256 ∨ 4352 ≤ (y 2).val
    · exact base_cover b A L y h0 e
    · exact ⟨_, List.mem_cons_self .., by exact mem_rt b 4 y h0 (show (y 1).val / 128 = 4 by omega) (by omega)⟩

theorem base_lift (b : Fin 2) (A : FVec Ideal S128x4096 .f32) (L : List (View.Piece (Elt Ideal) S2x1152x4608 .bf16)) (y : S2x1152x4608.Idx)
    (h : ∃ p ∈ L, y ∈ p.1.set) : ∃ p ∈ base b A L, y ∈ p.1.set := by
  obtain ⟨p, hp, hy⟩ := h
  exact ⟨p, by iterate 3 apply List.mem_cons_of_mem
               exact hp, hy⟩

theorem taps_lift (b : Fin 2) (L : List (View.Piece (Elt Ideal) S2x1152x4608 .bf16)) (y : S2x1152x4608.Idx)
    (h : ∃ p ∈ L, y ∈ p.1.set) : ∃ p ∈ taps V b L, y ∈ p.1.set := by
  obtain ⟨p, hp, hy⟩ := h
  exact ⟨p, by iterate 8 apply List.mem_cons_of_mem
               exact hp, hy⟩

theorem taps_cover (b : Fin 2) (L : List (View.Piece (Elt Ideal) S2x1152x4608 .bf16)) (hc : Centre b L) (y : S2x1152x4608.Idx)
    (h0 : y 0 = b) (h2 : 256 ≤ (y 2).val ∧ (y 2).val < 4352) : ∃ p ∈ taps V b L, y ∈ p.1.set := by
  have hy1 : (y 1).val < 1152 := (y 1).isLt
  have hj : (y 1).val / 128 < 9 := by omega
  have hm := mem_rt b ⟨(y 1).val / 128, hj⟩ y h0 rfl h2
  generalize hk : (⟨(y 1).val / 128, hj⟩ : Fin 9) = k at hm
  have hk' : (y 1).val / 128 = k.val := congrArg Fin.val hk
  fin_cases k
  · exact ⟨_, by iterate 7 apply List.mem_cons_of_mem
                 exact List.mem_cons_self .., by exact hm⟩
  · exact ⟨_, by iterate 6 apply List.mem_cons_of_mem
                 exact List.mem_cons_self .., by exact hm⟩
  · exact ⟨_, by iterate 5 apply List.mem_cons_of_mem
                 exact List.mem_cons_self .., by exact hm⟩
  · exact ⟨_, by iterate 4 apply List.mem_cons_of_mem
                 exact List.mem_cons_self .., by exact hm⟩
  · have hk4 : (y 1).val / 128 = 4 := hk'
    exact taps_lift V b L y (hc y h0 (by omega) (by omega))
  · exact ⟨_, by iterate 3 apply List.mem_cons_of_mem
                 exact List.mem_cons_self .., by exact hm⟩
  · exact ⟨_, by iterate 2 apply List.mem_cons_of_mem
                 exact List.mem_cons_self .., by exact hm⟩
  · exact ⟨_, List.mem_cons_of_mem _ (List.mem_cons_self ..), by exact hm⟩
  · exact ⟨_, List.mem_cons_self .., by exact hm⟩

/-- The stores cover the scratch. -/
theorem scratch_cover (A : Fin 2 → FVec Ideal S128x4096 .f32) (hA : ∀ b c n, A b (ix2 c n) = ((T b c n : ℝ) : EReal)) (y : S2x1152x4608.Idx) :
    ∃ p ∈ scratch V A, y ∈ p.1.set := by
  have h0 := base_pieces T 0 (A 0) (hA 0) [] trivial
  have h1 := base_pieces T 1 (A 1) (hA 1) _ h0.1
  by_cases hm : 256 ≤ (y 2).val ∧ (y 2).val < 4352
  · by_cases hb : y 0 = (0 : Fin 2)
    · exact taps_lift V 1 _ y (taps_cover V 0 _ (((h0.2.cons _).cons _).cons _) y hb hm)
    · exact taps_cover V 1 _ ((((((((h1.2.cons _).cons _).cons _).cons _).cons _).cons _).cons _).cons _) y
        (Fin.ext (by have : (y 0).val < 2 := (y 0).isLt
                     have : (y 0).val ≠ 0 := fun e => hb (Fin.ext e)
                     show (y 0).val = 1; omega)) hm
  · by_cases hb : y 0 = (0 : Fin 2)
    · exact taps_lift V 1 _ y (taps_lift V 0 _ y (base_lift 1 _ _ y (base_cover 0 _ _ y hb (by omega))))
    · exact taps_lift V 1 _ y (taps_lift V 0 _ y (base_cover 1 _ _ y
        (Fin.ext (by have : (y 0).val < 2 := (y 0).isLt
                     have : (y 0).val ≠ 0 := fun e => hb (Fin.ext e)
                     show (y 0).val = 1; omega)) (by omega)))

/-- Every store into the scratch is a block of `Z`. -/
theorem scratch_pieces (A : Fin 2 → FVec Ideal S128x4096 .f32) (hA : ∀ b c n, A b (ix2 c n) = ((T b c n : ℝ) : EReal)) :
    View.PiecesOf (Z T) (scratch V A) := by
  have h0 := base_pieces T 0 (A 0) (hA 0) [] trivial
  have h1 := base_pieces T 1 (A 1) (hA 1) _ h0.1
  have h2 := taps_pieces T V 0 _ ⟨h1.1, ((h0.2.cons _).cons _).cons _⟩
  have h3 := taps_pieces T V 1 _ ⟨h2.1, (((((((h1.2.cons _).cons _).cons _).cons _).cons _).cons _).cons _).cons _⟩
  exact h3.1

/-- A load of the finished scratch. -/
theorem read_scratch (A : Fin 2 → FVec Ideal S128x4096 .f32) (hA : ∀ b c n, A b (ix2 c n) = ((T b c n : ℝ) : EReal)) (b : Fin 2) (t : Fin 4) (a : Fin 3)
    (r : Fin 1152) (n : Fin 1024) :
    V.readCov (scratch V A) (rv b t a).toLoadRect (ix3 0 r n) = ((Zr T b r.val (1024 * t.val + 256 * a.val + n.val) : ℝ) : EReal) := by
  rw [View.readCov_eq_canon']
  have h := View.canon_append_of_piecesOf (Z T) [] _ (scratch_pieces T V A hA) ((rv b t a).idx (ix3 0 r n)) (scratch_cover T V A hA _)
  rw [List.append_nil] at h
  exact h.trans (Z_rv T b t a r n)

end Cert.Kern
-- ==== Proof.ValueB.lean ====
module

public import proofs.«01_k».proof.Proof.Scratch

@[expose] public section

set_option maxRecDepth 16384

/-! The kernel's convolution, statistics and output, element by element over the reals. -/

noncomputable section

namespace Cert.Kern

open Cert.KernelIdeal Cert.KernelIdeal.Gen Idealize.ShloMosaic Idealize.ShloMosaic.TcCoe Idealize.SL.Sem Cert.Model

/-- Position `k` of column tile `t`. -/
abbrev pos (t : Fin 4) (k : Fin 1024) : Fin 4096 := ⟨1024 * t.val + k.val, by omega⟩

/-- Row `128 (3 p + q) + c` of the stacked taps. -/
abbrev row (p q : Fin 3) (c : Fin 128) : Fin 1152 := ⟨128 * (3 * p.val + q.val) + c.val, by omega⟩

theorem sum_rows (f : Fin 1152 → ℝ) : ∑ r, f r = ∑ p : Fin 3, ∑ q : Fin 3, ∑ c : Fin 128, f (row p q c) := by
  rw [← (finProdFinEquiv (m := 9) (n := 128)).sum_comp, Fintype.sum_prod_type, ← (finProdFinEquiv (m := 3) (n := 3)).sum_comp, Fintype.sum_prod_type]
  refine Finset.sum_congr rfl fun p _ => Finset.sum_congr rfl fun q _ => Finset.sum_congr rfl fun c _ => ?_
  congr 1; ext; simp only [finProdFinEquiv_apply_val]; omega

theorem sum_pos (f : Fin 4096 → ℝ) : ∑ n, f n = ∑ t : Fin 4, ∑ k : Fin 1024, f (pos t k) := by
  rw [← (finProdFinEquiv (m := 4) (n := 1024)).sum_comp, Fintype.sum_prod_type]
  refine Finset.sum_congr rfl fun t _ => Finset.sum_congr rfl fun k _ => ?_
  congr 1; ext; simp only [finProdFinEquiv_apply_val]; omega

section

variable (T : Fin 2 → Fin 128 → Fin 4096 → ℝ) (V : View sig .tc .vmem S2x1152x4608 .bf16) (A : Fin 2 → FVec Ideal S128x4096 .f32)
  (hA : ∀ b c n, A b (ix2 c n) = ((T b c n : ℝ) : EReal)) (w : Fin 3 → Vec Ideal S1x128x1152 .bf16) (K : Fin 128 → Fin 128 → Fin 3 → Fin 3 → Fin 3 → ℝ)
  (hw : ∀ a o p q c, w a (ix3 0 o (row p q c)) = ((K o c a p q : ℝ) : EReal))

include hA hw

/-- One depth shift's product. -/
theorem shift_at (b : Fin 2) (t : Fin 4) (a : Fin 3) (o : Fin 128) (k : Fin 1024) :
    ∑ r : Fin 1152, (w a (ix3 0 o r) : EReal) * V.readCov (scratch V A) (rv b t a).toLoadRect (ix3 0 r k)
      = ((∑ p : Fin 3, ∑ q : Fin 3, ∑ c, K o c a p q * tap (T b) c p q (256 * a.val + (pos t k).val) : ℝ) : EReal) := by
  have h : ∀ r : Fin 1152, ∃ x : ℝ, (w a (ix3 0 o r) : EReal) = x := fun r =>
    ⟨K o ⟨r.val % 128, by omega⟩ a ⟨r.val / 128 / 3, by have := r.isLt; omega⟩ ⟨r.val / 128 % 3, by omega⟩, by
      rw [← hw]; exact congrArg (fun r => w a (ix3 0 o r)) (Fin.ext (by
        show r.val = 128 * (3 * (r.val / 128 / 3) + r.val / 128 % 3) + r.val % 128; omega))⟩
  choose f hf using h
  simp only [read_scratch T V A hA, hf, ← EReal.coe_mul, ← coe_sum]
  rw [sum_rows]
  refine congrArg _ (Finset.sum_congr rfl fun p _ => Finset.sum_congr rfl fun q _ => Finset.sum_congr rfl fun c _ => ?_)
  have hp := p.isLt
  have hq := q.isLt
  have hc := c.isLt
  have e1 : f (row p q c) = K o c a p q := EReal.coe_injective ((hf _).symm.trans (hw a o p q c))
  have e2 : (⟨(row p q c).val % 128, by omega⟩ : Fin 128) = c := Fin.ext (by show (128 * (3 * p.val + q.val) + c.val) % 128 = c.val; omega)
  have e3 : (row p q c).val / 128 / 3 = p.val := by show (128 * (3 * p.val + q.val) + c.val) / 128 / 3 = p.val; omega
  have e4 : (row p q c).val / 128 % 3 = q.val := by show (128 * (3 * p.val + q.val) + c.val) / 128 % 3 = q.val; omega
  have e5 : 1024 * t.val + 256 * a.val + k.val = 256 * a.val + (pos t k).val := by show _ = 256 * a.val + (1024 * t.val + k.val); omega
  unfold Zr
  rw [e1, e2, e3, e4, e5]

/-- One column tile of the convolution. -/
theorem tile_at (b : Fin 2) (t : Fin 4) (o : Fin 128) (k : Fin 1024) :
    tile V b w (scratch V A) t (ix2 o k) = ((conv K (T b) o (pos t k) : ℝ) : EReal) := by
  pointwise [tile, k0_pay64]
  have h := fun a => shift_at T V A hA w K hw b t a o k
  rw [h 0, h 1, h 2, ← EReal.coe_add, ← EReal.coe_add]
  unfold conv
  rw [Fin.sum_univ_three (f := fun a : Fin 3 => ∑ p : Fin 3, ∑ q : Fin 3, ∑ c, K o c a p q * tap (T b) c p q (256 * a.val + (pos t k).val))]

end

section

variable (R : Fin 4 → FVec Ideal S128x1024 .f32) (Y : Fin 128 → Fin 4096 → ℝ) (hR : ∀ t o k, R t (ix2 o k) = ((Y o (pos t k) : ℝ) : EReal))

theorem total_at (v : FVec Ideal S128x1024 .f32) (f : Fin 128 → Fin 1024 → ℝ) (hv : ∀ o k, v (ix2 o k) = ((f o k : ℝ) : EReal)) :
    total v = ((∑ o, ∑ k, f o k : ℝ) : EReal) := by
  pointwise [total]
  simp only [hv, coe_sum]

theorem four_tiles (f : Fin 128 → Fin 4096 → ℝ) :
    (∑ o, ∑ k, f o (pos 0 k)) + (∑ o, ∑ k, f o (pos 1 k)) + (∑ o, ∑ k, f o (pos 2 k)) + (∑ o, ∑ k, f o (pos 3 k)) = ∑ o, ∑ n, f o n := by
  rw [← Finset.sum_add_distrib, ← Finset.sum_add_distrib, ← Finset.sum_add_distrib]
  refine Finset.sum_congr rfl fun o _ => ?_
  rw [sum_pos, Fin.sum_univ_four]

include hR

theorem sum1_at : sum1 R = ((∑ o, ∑ n, Y o n : ℝ) : EReal) := by
  rw [← four_tiles]
  unfold sum1
  simp only [fun t => total_at (R t) _ (hR t)]
  rfl

theorem sum2_at : sum2 R = ((∑ o, ∑ n, Y o n * Y o n : ℝ) : EReal) := by
  rw [← four_tiles fun o n => Y o n * Y o n]
  unfold sum2
  have h : ∀ t, total (mulf (R t) (R t)) = ((∑ o, ∑ k, Y o (pos t k) * Y o (pos t k) : ℝ) : EReal) := fun t =>
    total_at _ _ fun o k => by
      rw [EReal.coe_mul, ← hR]; rfl
  simp only [h]
  rfl

theorem pay93_at : k0_pay93 (sum1 R) = ((mean Y : ℝ) : EReal) := by
  rw [sum1_at R Y hR]
  unfold k0_pay93 mean
  rw [← div_real _ _ (by norm_num), ← ofBits_count]
  rfl

theorem pay94_at : k0_pay94 (sum1 R) (sum2 R) = (((√(var Y + eps5))⁻¹ : ℝ) : EReal) := by
  have h : k0_pay94 (sum1 R) (sum2 R)
      = Ideal.rsqrt (Ideal.div (sum2 R) (Ideal.ofBits .f32 0x49000000#32) - k0_pay93 (sum1 R) * k0_pay93 (sum1 R) + Ideal.ofBits .f32 0x3727C5AC#32) := rfl
  have hv := var_nonneg Y
  have he := eps5_pos
  rw [h, pay93_at R Y hR, sum2_at R Y hR, ofBits_count, ofBits_eps5, div_real _ _ (by norm_num), ← EReal.coe_mul, ← EReal.coe_sub, ← EReal.coe_add,
    Ideal.rsqrt_coe]
  have hs : (∑ o, ∑ n, Y o n * Y o n) / 524288 - mean Y * mean Y = var Y := rfl
  rw [hs, if_neg (by linarith), if_neg (by linarith)]

theorem leaky_pre_at (gw gb : Vec Ideal S128x1 .f32) (t : Fin 4) (E : FVec Ideal S128x1024 .f32) (e : Fin 128 → Fin 1024 → ℝ)
    (hE : ∀ o k, E (ix2 o k) = ((e o k : ℝ) : EReal)) (o : Fin 128) (k : Fin 1024) :
    leaky (pre gw gb R t E) (ix3 0 o k)
      = last (Y o (pos t k)) (mean Y) (var Y) eps5 (gw (ix2 o 0)) (gb (ix2 o 0)) (e o k) (Ideal.ofBits .f32 0x3C23D70A#32) := by
  pointwise [leaky, pre]
  rw [pay93_at R Y hR, pay94_at R Y hR, hR, hE]
  unfold last
  rw [← EReal.coe_sub, ← EReal.coe_mul]

end

/-- The residual's columns of one tile. -/
theorem cut_at (A : FVec Ideal S128x4096 .f32) (t : Fin 4) (o : Fin 128) (k : Fin 1024) : cut A t (ix2 o k) = A (ix2 o (pos t k)) := by
  fin_cases t
  · show extractStridedSlice S128x1024 ![0, 0] A slices_S128x4096_o0_0_S128x1024 (ix2 o k) = _
    pointwise []
    exact congrArg (fun n => A (ix2 o n)) (Fin.ext (by show k.val = 1024 * 0 + k.val; omega))
  · show extractStridedSlice S128x1024 ![0, 1024] A slices_S128x4096_o0_1024_S128x1024 (ix2 o k) = _
    pointwise []
    exact congrArg (fun n => A (ix2 o n)) (Fin.ext (by show 1024 + k.val = 1024 * 1 + k.val; omega))
  · show extractStridedSlice S128x1024 ![0, 2048] A slices_S128x4096_o0_2048_S128x1024 (ix2 o k) = _
    pointwise []
    exact congrArg (fun n => A (ix2 o n)) (Fin.ext (by show 2048 + k.val = 1024 * 2 + k.val; omega))
  · show extractStridedSlice S128x1024 ![0, 3072] A slices_S128x4096_o0_3072_S128x1024 (ix2 o k) = _
    pointwise []
    exact congrArg (fun n => A (ix2 o n)) (Fin.ext (by show 3072 + k.val = 1024 * 3 + k.val; omega))

/-- A store at one column tile of one batch item is a block of `G` when it is so element by element. -/
theorem ro_piece (G : Fin 2 → Fin 128 → Fin 4096 → EReal) (b : Fin 2) (t : Fin 4) (v : FVec Ideal S1x128x1024 .f32)
    (hv : ∀ o k, v (ix3 0 o k) = G b o (pos t k)) (x : (ro b t).shape.Idx) :
    v x = (fun y : S2x128x4096.Idx => G (y 0) (y 1) (y 2)) ((ro b t).emb x) := by
  obtain ⟨o, k, rfl⟩ : ∃ (o : Fin 128) (k : Fin 1024), x = ix3 0 o k := ⟨x 1, x 2, by
    rw [eq_ix3 x]; congr 1; exact Subsingleton.elim (α := Fin 1) _ _⟩
  refine (hv o k).trans ?_
  have h0 : (ro b t).emb (ix3 0 o k) 0 = b := Fin.ext (show b.val + 1 * 0 = b.val by omega)
  have h1 : (ro b t).emb (ix3 0 o k) 1 = o := Fin.ext (show 0 + 1 * o.val = o.val by omega)
  have h2 : (ro b t).emb (ix3 0 o k) 2 = pos t k := Fin.ext (show 1024 * t.val + 1 * k.val = 1024 * t.val + k.val by omega)
  show _ = G ((ro b t).emb (ix3 0 o k) 0) ((ro b t).emb (ix3 0 o k) 1) ((ro b t).emb (ix3 0 o k) 2)
  rw [h0, h1, h2]

theorem mem_ro (b : Fin 2) (o : Fin 128) (n : Fin 4096) (t : Fin 4) (ht : n.val / 1024 = t.val) : (ix3 b o n : S2x128x4096.Idx) ∈ (ro b t).set := by
  have ho := o.isLt
  refine Rect.mem_set_unit.mpr fun a => ?_
  fin_cases a
  · show b.val ≤ b.val ∧ b.val < b.val + 1; omega
  · show 0 ≤ o.val ∧ o.val < 0 + 128; omega
  · show 1024 * t.val ≤ n.val ∧ n.val < 1024 * t.val + 1024; omega

/-- The eight output stores, read at one element. -/
theorem canon_out (G : Fin 2 → Fin 128 → Fin 4096 → EReal) (f : Fin 2 → Fin 4 → FVec Ideal S1x128x1024 .f32)
    (hf : ∀ b t o k, f b t (ix3 0 o k) = G b o (pos t k)) (b : Fin 2) (o : Fin 128) (n : Fin 4096) :
    View.canon ([⟨ro 1 3, f 1 3⟩, ⟨ro 1 2, f 1 2⟩, ⟨ro 1 1, f 1 1⟩, ⟨ro 1 0, f 1 0⟩, ⟨ro 0 3, f 0 3⟩, ⟨ro 0 2, f 0 2⟩, ⟨ro 0 1, f 0 1⟩, ⟨ro 0 0, f 0 0⟩]
      : List (View.Piece (Elt Ideal) S2x128x4096 .f32)) (ix3 b o n) = G b o n := by
  have hp := fun b t => ro_piece G b t (f b t) (hf b t)
  have h := View.canon_append_of_piecesOf (fun y : S2x128x4096.Idx => G (y 0) (y 1) (y 2)) []
    ([⟨ro 1 3, f 1 3⟩, ⟨ro 1 2, f 1 2⟩, ⟨ro 1 1, f 1 1⟩, ⟨ro 1 0, f 1 0⟩, ⟨ro 0 3, f 0 3⟩, ⟨ro 0 2, f 0 2⟩, ⟨ro 0 1, f 0 1⟩, ⟨ro 0 0, f 0 0⟩]
      : List (View.Piece (Elt Ideal) S2x128x4096 .f32))
    ⟨hp 1 3, hp 1 2, hp 1 1, hp 1 0, hp 0 3, hp 0 2, hp 0 1, hp 0 0, trivial⟩ (ix3 b o n) (by
      have hn := n.isLt
      have ht : n.val / 1024 < 4 := by omega
      have hm := mem_ro b o n ⟨n.val / 1024, ht⟩ rfl
      generalize (⟨n.val / 1024, ht⟩ : Fin 4) = t at hm
      refine ⟨⟨ro b t, f b t⟩, ?_, hm⟩
      fin_cases b <;> fin_cases t <;> simp)
  exact h

section

variable (x : Vec Ideal S2x128x4096 .f32) (wq : Vec Ideal S384x128 .bf16) (wg : Vec Ideal S128x128 .bf16) (bg : Vec Ideal S128x1 .f32)
  (w : Vec Ideal S3x128x1152 .bf16) (gw gb : Vec Ideal S128x1 .f32) (V : View sig .tc .vmem S2x1152x4608 .bf16)
  (X : Fin 2 → Fin 128 → Fin 4096 → ℝ) (W : Fin 384 → Fin 128 → ℝ) (W2 : Fin 128 → Fin 128 → ℝ) (b2 g : Fin 128 → ℝ)
  (K : Fin 128 → Fin 128 → Fin 3 → Fin 3 → Fin 3 → ℝ)
  (hx : ∀ b c n, x (ix3 b c n) = ((X b c n : ℝ) : EReal)) (hwq : ∀ r c, wq (ix2 r c) = ((W r c : ℝ) : EReal))
  (hwg : ∀ c i, wg (ix2 c i) = ((g c * W2 c i : ℝ) : EReal)) (hbg : ∀ c, bg (ix2 c 0) = ((g c * b2 c : ℝ) : EReal))
  (hw : ∀ a o p q c, w (ix3 a o (row p q c)) = ((K o c a p q : ℝ) : EReal))

/-- One batch item's residual sum, as real numbers. -/
abbrev sumB (b : Fin 2) : Fin 128 → Fin 4096 → ℝ := Model.att eps (qkv W (X b)) (X b) W2 b2 g

include hx hwq hwg hbg in
theorem attb_at (b : Fin 2) (c : Fin 128) (n : Fin 4096) : attb x wq wg bg b (ix2 c n) = ((sumB X W W2 b2 g b c n : ℝ) : EReal) := by
  refine att_at _ wq wg bg (X b) W W2 b2 g (fun c n => ?_) hwq hwg hbg c n
  rw [← hx]
  pointwise []

include hx hwq hwg hbg hw

theorem outTile_at (b : Fin 2) (t : Fin 4) (o : Fin 128) (k : Fin 1024) :
    outTile x wq wg bg w gw gb V b t (ix3 0 o k)
      = last (conv K (sumB X W W2 b2 g b) o (pos t k)) (mean (conv K (sumB X W W2 b2 g b))) (var (conv K (sumB X W W2 b2 g b))) eps5
        (gw (ix2 o 0)) (gb (ix2 o 0)) (sumB X W W2 b2 g b o (pos t k)) (Ideal.ofBits .f32 0x3C23D70A#32) := by
  have hA := attb_at x wq wg bg X W W2 b2 g hx hwq hwg hbg
  refine leaky_pre_at _ (conv K (sumB X W W2 b2 g b)) (fun t o k => ?_) gw gb t _ (fun o k => sumB X W W2 b2 g b o (pos t k)) (fun o k => ?_) o k
  · refine tile_at (sumB X W W2 b2 g) V _ hA _ K (fun a o p q c => ?_) b t o k
    rw [← hw]
    pointwise []
  · rw [← hA]
    exact cut_at _ t o k

/-- The output block at one element. -/
theorem out_at (b : Fin 2) (o : Fin 128) (n : Fin 4096) :
    View.canon (outList x wq wg bg w gw gb V) (ix3 b o n)
      = last (conv K (sumB X W W2 b2 g b) o n) (mean (conv K (sumB X W W2 b2 g b))) (var (conv K (sumB X W W2 b2 g b))) eps5
        (gw (ix2 o 0)) (gb (ix2 o 0)) (sumB X W W2 b2 g b o n) (Ideal.ofBits .f32 0x3C23D70A#32) :=
  canon_out (fun b o n => last (conv K (sumB X W W2 b2 g b) o n) (mean (conv K (sumB X W W2 b2 g b))) (var (conv K (sumB X W W2 b2 g b))) eps5
      (gw (ix2 o 0)) (gb (ix2 o 0)) (sumB X W W2 b2 g b o n) (Ideal.ofBits .f32 0x3C23D70A#32))
    (outTile x wq wg bg w gw gb V) (outTile_at x wq wg bg w gw gb V X W W2 b2 g K hx hwq hwg hbg hw) b o n

end

end Cert.Kern
-- ==== Proof.Run.lean ====
module

public import proofs.«01_k».proof.Proof.Kernel

@[expose] public section

set_option maxRecDepth 16384

/-! The run's stores are the formula's: each value the run names is the formula's, one after another. -/

noncomputable section

namespace Cert.Kern

open Cert.KernelIdeal Cert.KernelIdeal.Gen Idealize.ShloMosaic Idealize.ShloMosaic.TcCoe Idealize.SL.Sem
open Cert.KernelIdeal.Gen.kernelRun0_A

variable {F : FTy → Type} [FloatOps F] [Named F]

section

variable (c : Dev nD) (arg0 : Memref sig .tc .vmem S2x128x4096 .f32) (h0 : arg0.IsWhole) (arg1 : Memref sig .tc .vmem S384x128 .bf16) (h1 : arg1.IsWhole)
  (arg2 : Memref sig .tc .vmem S128x128 .bf16) (h2 : arg2.IsWhole) (arg3 : Memref sig .tc .vmem S128x1 .f32) (h3 : arg3.IsWhole)
  (arg4 : Memref sig .tc .vmem S3x128x1152 .bf16) (h4 : arg4.IsWhole) (arg5 : Memref sig .tc .vmem S128x1 .f32) (h5 : arg5.IsWhole)
  (arg6 : Memref sig .tc .vmem S128x1 .f32) (h6 : arg6.IsWhole) (arg8 : Memref sig .tc .vmem S2x1152x4608 .bf16)
  (x0 : Vec F S2x128x4096 .f32) (x1 : Vec F S384x128 .bf16) (x2 : Vec F S128x128 .bf16) (x3 : Vec F S128x1 .f32) (x4 : Vec F S3x128x1152 .bf16)
  (x5 x6 : Vec F S128x1 .f32)

/-- The named attention of batch item 0. -/
theorem run_v155 : sl.v155 c arg0 h0 arg1 h1 arg2 h2 arg3 h3 x0 x1 x2 x3 = attb x0 x1 x2 x3 0 := by
  have e0 : arg0.view.readAt (Elt F) (rx 0).toLoadRect (h0.unread x0) = View.ld x0 (rx 0) := by
    simp only [View.readAt_eq_ld, Memref.IsWhole.read_unread]
  have e1 : arg1.view.readAt (Elt F) (Rect.unit (s := S384x128) ![0, 0] S384x128.size inb_S384x128_S384x128_0_0).toLoadRect (h1.unread x1) = x1 := by
    simp (disch := decide) only [View.readAt_eq_ld, Memref.IsWhole.read_unread, View.ld_unit_lit']
  have e2 : arg2.view.readAt (Elt F) (Rect.unit (s := S128x128) ![0, 0] S128x128.size inb_S128x128_S128x128_0_0).toLoadRect (h2.unread x2) = x2 := by
    simp (disch := decide) only [View.readAt_eq_ld, Memref.IsWhole.read_unread, View.ld_unit_lit']
  have e3 : arg3.view.readAt (Elt F) (Rect.unit (s := S128x1) ![0, 0] S128x1.size inb_S128x1_S128x1_0_0).toLoadRect (h3.unread x3) = x3 := by
    simp (disch := decide) only [View.readAt_eq_ld, Memref.IsWhole.read_unread, View.ld_unit_lit']
  have h : sl.v155 c arg0 h0 arg1 h1 arg2 h2 arg3 h3 x0 x1 x2 x3 = att (arg0.view.readAt (Elt F) (rx 0).toLoadRect (h0.unread x0))
      (arg1.view.readAt (Elt F) (Rect.unit (s := S384x128) ![0, 0] S384x128.size inb_S384x128_S384x128_0_0).toLoadRect (h1.unread x1))
      (arg2.view.readAt (Elt F) (Rect.unit (s := S128x128) ![0, 0] S128x128.size inb_S128x128_S128x128_0_0).toLoadRect (h2.unread x2))
      (arg3.view.readAt (Elt F) (Rect.unit (s := S128x1) ![0, 0] S128x1.size inb_S128x1_S128x1_0_0).toLoadRect (h3.unread x3)) := rfl
  rw [h, e0, e1, e2, e3, attb]

/-- The named attention of batch item 1. -/
theorem run_v160 : sl.v160 c arg0 h0 arg1 h1 arg2 h2 arg3 h3 x0 x1 x2 x3 = attb x0 x1 x2 x3 1 := by
  have e0 : arg0.view.readAt (Elt F) (rx 1).toLoadRect (h0.unread x0) = View.ld x0 (rx 1) := by
    simp only [View.readAt_eq_ld, Memref.IsWhole.read_unread]
  have e1 : arg1.view.readAt (Elt F) (Rect.unit (s := S384x128) ![0, 0] S384x128.size inb_S384x128_S384x128_0_0).toLoadRect (h1.unread x1) = x1 := by
    simp (disch := decide) only [View.readAt_eq_ld, Memref.IsWhole.read_unread, View.ld_unit_lit']
  have e2 : arg2.view.readAt (Elt F) (Rect.unit (s := S128x128) ![0, 0] S128x128.size inb_S128x128_S128x128_0_0).toLoadRect (h2.unread x2) = x2 := by
    simp (disch := decide) only [View.readAt_eq_ld, Memref.IsWhole.read_unread, View.ld_unit_lit']
  have e3 : arg3.view.readAt (Elt F) (Rect.unit (s := S128x1) ![0, 0] S128x1.size inb_S128x1_S128x1_0_0).toLoadRect (h3.unread x3) = x3 := by
    simp (disch := decide) only [View.readAt_eq_ld, Memref.IsWhole.read_unread, View.ld_unit_lit']
  have h : sl.v160 c arg0 h0 arg1 h1 arg2 h2 arg3 h3 x0 x1 x2 x3 = att (arg0.view.readAt (Elt F) (rx 1).toLoadRect (h0.unread x0))
      (arg1.view.readAt (Elt F) (Rect.unit (s := S384x128) ![0, 0] S384x128.size inb_S384x128_S384x128_0_0).toLoadRect (h1.unread x1))
      (arg2.view.readAt (Elt F) (Rect.unit (s := S128x128) ![0, 0] S128x128.size inb_S128x128_S128x128_0_0).toLoadRect (h2.unread x2))
      (arg3.view.readAt (Elt F) (Rect.unit (s := S128x1) ![0, 0] S128x1.size inb_S128x1_S128x1_0_0).toLoadRect (h3.unread x3)) := rfl
  rw [h, e0, e1, e2, e3, attb]

/-- The centre stores. -/
theorem run_6 : sl.HS0_6 c arg0 h0 arg1 h1 arg2 h2 arg3 h3 x0 x1 x2 x3 = base 1 (sl.v160 c arg0 h0 arg1 h1 arg2 h2 arg3 h3 x0 x1 x2 x3) (base 0 (sl.v155 c arg0 h0 arg1 h1 arg2 h2 arg3 h3 x0 x1 x2 x3) []) := rfl

/-- Tap 0 of batch item 0. -/
theorem run_7 : sl.HS0_7 c arg0 h0 arg1 h1 arg2 h2 arg3 h3 arg8 x0 x1 x2 x3 = tapStep arg8.view 0 0 239 (andi (maskLo k0_pay29) (maskLo k0_pay30)) (sl.HS0_6 c arg0 h0 arg1 h1 arg2 h2 arg3 h3 x0 x1 x2 x3) := rfl

/-- Tap 1 of batch item 0. -/
theorem run_8 : sl.HS0_8 c arg0 h0 arg1 h1 arg2 h2 arg3 h3 arg8 x0 x1 x2 x3 = tapStep arg8.view 0 1 240 (maskLo k0_pay29) (sl.HS0_7 c arg0 h0 arg1 h1 arg2 h2 arg3 h3 arg8 x0 x1 x2 x3) := rfl

/-- Tap 2 of batch item 0. -/
theorem run_9 : sl.HS0_9 c arg0 h0 arg1 h1 arg2 h2 arg3 h3 arg8 x0 x1 x2 x3 = tapStep arg8.view 0 2 241 (andi (maskLo k0_pay29) (maskHi k0_pay30)) (sl.HS0_8 c arg0 h0 arg1 h1 arg2 h2 arg3 h3 arg8 x0 x1 x2 x3) := rfl

/-- Tap 3 of batch item 0. -/
theorem run_10 : sl.HS0_10 c arg0 h0 arg1 h1 arg2 h2 arg3 h3 arg8 x0 x1 x2 x3 = tapStep arg8.view 0 3 255 (maskLo k0_pay30) (sl.HS0_9 c arg0 h0 arg1 h1 arg2 h2 arg3 h3 arg8 x0 x1 x2 x3) := rfl

/-- Tap 5 of batch item 0. -/
theorem run_11 : sl.HS0_11 c arg0 h0 arg1 h1 arg2 h2 arg3 h3 arg8 x0 x1 x2 x3 = tapStep arg8.view 0 5 257 (maskHi k0_pay30) (sl.HS0_10 c arg0 h0 arg1 h1 arg2 h2 arg3 h3 arg8 x0 x1 x2 x3) := rfl

/-- Tap 6 of batch item 0. -/
theorem run_12 : sl.HS0_12 c arg0 h0 arg1 h1 arg2 h2 arg3 h3 arg8 x0 x1 x2 x3 = tapStep arg8.view 0 6 271 (andi (maskHi k0_pay29) (maskLo k0_pay30)) (sl.HS0_11 c arg0 h0 arg1 h1 arg2 h2 arg3 h3 arg8 x0 x1 x2 x3) := rfl

/-- Tap 7 of batch item 0. -/
theorem run_13 : sl.HS0_13 c arg0 h0 arg1 h1 arg2 h2 arg3 h3 arg8 x0 x1 x2 x3 = tapStep arg8.view 0 7 272 (maskHi k0_pay29) (sl.HS0_12 c arg0 h0 arg1 h1 arg2 h2 arg3 h3 arg8 x0 x1 x2 x3) := rfl

/-- Tap 8 of batch item 0. -/
theorem run_14 : sl.HS0_14 c arg0 h0 arg1 h1 arg2 h2 arg3 h3 arg8 x0 x1 x2 x3 = tapStep arg8.view 0 8 273 (andi (maskHi k0_pay29) (maskHi k0_pay30)) (sl.HS0_13 c arg0 h0 arg1 h1 arg2 h2 arg3 h3 arg8 x0 x1 x2 x3) := rfl

/-- Tap 0 of batch item 1. -/
theorem run_15 : sl.HS0_15 c arg0 h0 arg1 h1 arg2 h2 arg3 h3 arg8 x0 x1 x2 x3 = tapStep arg8.view 1 0 239 (andi (maskLo k0_pay29) (maskLo k0_pay30)) (sl.HS0_14 c arg0 h0 arg1 h1 arg2 h2 arg3 h3 arg8 x0 x1 x2 x3) := rfl

/-- Tap 1 of batch item 1. -/
theorem run_16 : sl.HS0_16 c arg0 h0 arg1 h1 arg2 h2 arg3 h3 arg8 x0 x1 x2 x3 = tapStep arg8.view 1 1 240 (maskLo k0_pay29) (sl.HS0_15 c arg0 h0 arg1 h1 arg2 h2 arg3 h3 arg8 x0 x1 x2 x3) := rfl

/-- Tap 2 of batch item 1. -/
theorem run_17 : sl.HS0_17 c arg0 h0 arg1 h1 arg2 h2 arg3 h3 arg8 x0 x1 x2 x3 = tapStep arg8.view 1 2 241 (andi (maskLo k0_pay29) (maskHi k0_pay30)) (sl.HS0_16 c arg0 h0 arg1 h1 arg2 h2 arg3 h3 arg8 x0 x1 x2 x3) := rfl

/-- Tap 3 of batch item 1. -/
theorem run_18 : sl.HS0_18 c arg0 h0 arg1 h1 arg2 h2 arg3 h3 arg8 x0 x1 x2 x3 = tapStep arg8.view 1 3 255 (maskLo k0_pay30) (sl.HS0_17 c arg0 h0 arg1 h1 arg2 h2 arg3 h3 arg8 x0 x1 x2 x3) := rfl

/-- Tap 5 of batch item 1. -/
theorem run_19 : sl.HS0_19 c arg0 h0 arg1 h1 arg2 h2 arg3 h3 arg8 x0 x1 x2 x3 = tapStep arg8.view 1 5 257 (maskHi k0_pay30) (sl.HS0_18 c arg0 h0 arg1 h1 arg2 h2 arg3 h3 arg8 x0 x1 x2 x3) := rfl

/-- Tap 6 of batch item 1. -/
theorem run_20 : sl.HS0_20 c arg0 h0 arg1 h1 arg2 h2 arg3 h3 arg8 x0 x1 x2 x3 = tapStep arg8.view 1 6 271 (andi (maskHi k0_pay29) (maskLo k0_pay30)) (sl.HS0_19 c arg0 h0 arg1 h1 arg2 h2 arg3 h3 arg8 x0 x1 x2 x3) := rfl

/-- Tap 7 of batch item 1. -/
theorem run_21 : sl.HS0_21 c arg0 h0 arg1 h1 arg2 h2 arg3 h3 arg8 x0 x1 x2 x3 = tapStep arg8.view 1 7 272 (maskHi k0_pay29) (sl.HS0_20 c arg0 h0 arg1 h1 arg2 h2 arg3 h3 arg8 x0 x1 x2 x3) := rfl

/-- Tap 8 of batch item 1. -/
theorem run_22 : sl.HS0_22 c arg0 h0 arg1 h1 arg2 h2 arg3 h3 arg8 x0 x1 x2 x3 = tapStep arg8.view 1 8 273 (andi (maskHi k0_pay29) (maskHi k0_pay30)) (sl.HS0_21 c arg0 h0 arg1 h1 arg2 h2 arg3 h3 arg8 x0 x1 x2 x3) := rfl

/-- All the scratch stores. -/
theorem run_scratch : sl.HS0_22 c arg0 h0 arg1 h1 arg2 h2 arg3 h3 arg8 x0 x1 x2 x3 = scratch arg8.view (attb x0 x1 x2 x3) := by
  rw [run_22, run_21, run_20, run_19, run_18, run_17, run_16, run_15, run_14, run_13, run_12, run_11, run_10, run_9, run_8, run_7, run_6, run_v155, run_v160, scratch]

/-- A load of one weight matrix. -/
theorem ldw (a : Fin 3) : arg4.view.readAt (Elt F) (rw a).toLoadRect (h4.unread x4) = View.ld x4 (rw a) := by
  simp only [View.readAt_eq_ld, Memref.IsWhole.read_unread]

/-- A load of a column of scales. -/
theorem ldc (g : Memref sig .tc .vmem S128x1 .f32) (h : g.IsWhole) (x : Vec F S128x1 .f32) :
    g.view.readAt (Elt F) (Rect.unit (s := S128x1) ![0, 0] S128x1.size inb_S128x1_S128x1_0_0).toLoadRect (h.unread x) = x := by
  simp (disch := decide) only [View.readAt_eq_ld, Memref.IsWhole.read_unread, View.ld_unit_lit']

/-- Tile 0 of batch item 0. -/
theorem run_v408 : sl.v408 c arg0 h0 arg1 h1 arg2 h2 arg3 h3 arg4 h4 arg8 x0 x1 x2 x3 x4 = tiles x0 x1 x2 x3 x4 arg8.view 0 0 := by
  have h : sl.v408 c arg0 h0 arg1 h1 arg2 h2 arg3 h3 arg4 h4 arg8 x0 x1 x2 x3 x4 = tile arg8.view 0 (fun a => arg4.view.readAt (Elt F) (rw a).toLoadRect (h4.unread x4)) (sl.HS0_22 c arg0 h0 arg1 h1 arg2 h2 arg3 h3 arg8 x0 x1 x2 x3) 0 := rfl
  rw [h, run_scratch]
  simp only [ldw]
  rfl

/-- Tile 1 of batch item 0. -/
theorem run_v434 : sl.v434 c arg0 h0 arg1 h1 arg2 h2 arg3 h3 arg4 h4 arg8 x0 x1 x2 x3 x4 = tiles x0 x1 x2 x3 x4 arg8.view 0 1 := by
  have h : sl.v434 c arg0 h0 arg1 h1 arg2 h2 arg3 h3 arg4 h4 arg8 x0 x1 x2 x3 x4 = tile arg8.view 0 (fun a => arg4.view.readAt (Elt F) (rw a).toLoadRect (h4.unread x4)) (sl.HS0_22 c arg0 h0 arg1 h1 arg2 h2 arg3 h3 arg8 x0 x1 x2 x3) 1 := rfl
  rw [h, run_scratch]
  simp only [ldw]
  rfl

/-- Tile 2 of batch item 0. -/
theorem run_v462 : sl.v462 c arg0 h0 arg1 h1 arg2 h2 arg3 h3 arg4 h4 arg8 x0 x1 x2 x3 x4 = tiles x0 x1 x2 x3 x4 arg8.view 0 2 := by
  have h : sl.v462 c arg0 h0 arg1 h1 arg2 h2 arg3 h3 arg4 h4 arg8 x0 x1 x2 x3 x4 = tile arg8.view 0 (fun a => arg4.view.readAt (Elt F) (rw a).toLoadRect (h4.unread x4)) (sl.HS0_22 c arg0 h0 arg1 h1 arg2 h2 arg3 h3 arg8 x0 x1 x2 x3) 2 := rfl
  rw [h, run_scratch]
  simp only [ldw]
  rfl

/-- Tile 3 of batch item 0. -/
theorem run_v490 : sl.v490 c arg0 h0 arg1 h1 arg2 h2 arg3 h3 arg4 h4 arg8 x0 x1 x2 x3 x4 = tiles x0 x1 x2 x3 x4 arg8.view 0 3 := by
  have h : sl.v490 c arg0 h0 arg1 h1 arg2 h2 arg3 h3 arg4 h4 arg8 x0 x1 x2 x3 x4 = tile arg8.view 0 (fun a => arg4.view.readAt (Elt F) (rw a).toLoadRect (h4.unread x4)) (sl.HS0_22 c arg0 h0 arg1 h1 arg2 h2 arg3 h3 arg8 x0 x1 x2 x3) 3 := rfl
  rw [h, run_scratch]
  simp only [ldw]
  rfl

/-- The sum over batch item 0. -/
theorem run_v500 : sl.v500 c arg0 h0 arg1 h1 arg2 h2 arg3 h3 arg4 h4 arg8 x0 x1 x2 x3 x4 = sum1 (tiles x0 x1 x2 x3 x4 arg8.view 0) := by
  have h : sl.v500 c arg0 h0 arg1 h1 arg2 h2 arg3 h3 arg4 h4 arg8 x0 x1 x2 x3 x4 = sum1 ![sl.v408 c arg0 h0 arg1 h1 arg2 h2 arg3 h3 arg4 h4 arg8 x0 x1 x2 x3 x4, sl.v434 c arg0 h0 arg1 h1 arg2 h2 arg3 h3 arg4 h4 arg8 x0 x1 x2 x3 x4, sl.v462 c arg0 h0 arg1 h1 arg2 h2 arg3 h3 arg4 h4 arg8 x0 x1 x2 x3 x4, sl.v490 c arg0 h0 arg1 h1 arg2 h2 arg3 h3 arg4 h4 arg8 x0 x1 x2 x3 x4] := rfl
  rw [h, run_v408, run_v434, run_v462, run_v490]
  rfl

/-- The sum of squares over batch item 0. -/
theorem run_v501 : sl.v501 c arg0 h0 arg1 h1 arg2 h2 arg3 h3 arg4 h4 arg8 x0 x1 x2 x3 x4 = sum2 (tiles x0 x1 x2 x3 x4 arg8.view 0) := by
  have h : sl.v501 c arg0 h0 arg1 h1 arg2 h2 arg3 h3 arg4 h4 arg8 x0 x1 x2 x3 x4 = sum2 ![sl.v408 c arg0 h0 arg1 h1 arg2 h2 arg3 h3 arg4 h4 arg8 x0 x1 x2 x3 x4, sl.v434 c arg0 h0 arg1 h1 arg2 h2 arg3 h3 arg4 h4 arg8 x0 x1 x2 x3 x4, sl.v462 c arg0 h0 arg1 h1 arg2 h2 arg3 h3 arg4 h4 arg8 x0 x1 x2 x3 x4, sl.v490 c arg0 h0 arg1 h1 arg2 h2 arg3 h3 arg4 h4 arg8 x0 x1 x2 x3 x4] := rfl
  rw [h, run_v408, run_v434, run_v462, run_v490]
  rfl

/-- Tile 0 of batch item 1. -/
theorem run_v518 : sl.v518 c arg0 h0 arg1 h1 arg2 h2 arg3 h3 arg4 h4 arg8 x0 x1 x2 x3 x4 = tiles x0 x1 x2 x3 x4 arg8.view 1 0 := by
  have h : sl.v518 c arg0 h0 arg1 h1 arg2 h2 arg3 h3 arg4 h4 arg8 x0 x1 x2 x3 x4 = tile arg8.view 1 (fun a => arg4.view.readAt (Elt F) (rw a).toLoadRect (h4.unread x4)) (sl.HS0_22 c arg0 h0 arg1 h1 arg2 h2 arg3 h3 arg8 x0 x1 x2 x3) 0 := rfl
  rw [h, run_scratch]
  simp only [ldw]
  rfl

/-- Tile 1 of batch item 1. -/
theorem run_v544 : sl.v544 c arg0 h0 arg1 h1 arg2 h2 arg3 h3 arg4 h4 arg8 x0 x1 x2 x3 x4 = tiles x0 x1 x2 x3 x4 arg8.view 1 1 := by
  have h : sl.v544 c arg0 h0 arg1 h1 arg2 h2 arg3 h3 arg4 h4 arg8 x0 x1 x2 x3 x4 = tile arg8.view 1 (fun a => arg4.view.readAt (Elt F) (rw a).toLoadRect (h4.unread x4)) (sl.HS0_22 c arg0 h0 arg1 h1 arg2 h2 arg3 h3 arg8 x0 x1 x2 x3) 1 := rfl
  rw [h, run_scratch]
  simp only [ldw]
  rfl

/-- Tile 2 of batch item 1. -/
theorem run_v572 : sl.v572 c arg0 h0 arg1 h1 arg2 h2 arg3 h3 arg4 h4 arg8 x0 x1 x2 x3 x4 = tiles x0 x1 x2 x3 x4 arg8.view 1 2 := by
  have h : sl.v572 c arg0 h0 arg1 h1 arg2 h2 arg3 h3 arg4 h4 arg8 x0 x1 x2 x3 x4 = tile arg8.view 1 (fun a => arg4.view.readAt (Elt F) (rw a).toLoadRect (h4.unread x4)) (sl.HS0_22 c arg0 h0 arg1 h1 arg2 h2 arg3 h3 arg8 x0 x1 x2 x3) 2 := rfl
  rw [h, run_scratch]
  simp only [ldw]
  rfl

/-- Tile 3 of batch item 1. -/
theorem run_v600 : sl.v600 c arg0 h0 arg1 h1 arg2 h2 arg3 h3 arg4 h4 arg8 x0 x1 x2 x3 x4 = tiles x0 x1 x2 x3 x4 arg8.view 1 3 := by
  have h : sl.v600 c arg0 h0 arg1 h1 arg2 h2 arg3 h3 arg4 h4 arg8 x0 x1 x2 x3 x4 = tile arg8.view 1 (fun a => arg4.view.readAt (Elt F) (rw a).toLoadRect (h4.unread x4)) (sl.HS0_22 c arg0 h0 arg1 h1 arg2 h2 arg3 h3 arg8 x0 x1 x2 x3) 3 := rfl
  rw [h, run_scratch]
  simp only [ldw]
  rfl

/-- The sum over batch item 1. -/
theorem run_v610 : sl.v610 c arg0 h0 arg1 h1 arg2 h2 arg3 h3 arg4 h4 arg8 x0 x1 x2 x3 x4 = sum1 (tiles x0 x1 x2 x3 x4 arg8.view 1) := by
  have h : sl.v610 c arg0 h0 arg1 h1 arg2 h2 arg3 h3 arg4 h4 arg8 x0 x1 x2 x3 x4 = sum1 ![sl.v518 c arg0 h0 arg1 h1 arg2 h2 arg3 h3 arg4 h4 arg8 x0 x1 x2 x3 x4, sl.v544 c arg0 h0 arg1 h1 arg2 h2 arg3 h3 arg4 h4 arg8 x0 x1 x2 x3 x4, sl.v572 c arg0 h0 arg1 h1 arg2 h2 arg3 h3 arg4 h4 arg8 x0 x1 x2 x3 x4, sl.v600 c arg0 h0 arg1 h1 arg2 h2 arg3 h3 arg4 h4 arg8 x0 x1 x2 x3 x4] := rfl
  rw [h, run_v518, run_v544, run_v572, run_v600]
  rfl

/-- The sum of squares over batch item 1. -/
theorem run_v611 : sl.v611 c arg0 h0 arg1 h1 arg2 h2 arg3 h3 arg4 h4 arg8 x0 x1 x2 x3 x4 = sum2 (tiles x0 x1 x2 x3 x4 arg8.view 1) := by
  have h : sl.v611 c arg0 h0 arg1 h1 arg2 h2 arg3 h3 arg4 h4 arg8 x0 x1 x2 x3 x4 = sum2 ![sl.v518 c arg0 h0 arg1 h1 arg2 h2 arg3 h3 arg4 h4 arg8 x0 x1 x2 x3 x4, sl.v544 c arg0 h0 arg1 h1 arg2 h2 arg3 h3 arg4 h4 arg8 x0 x1 x2 x3 x4, sl.v572 c arg0 h0 arg1 h1 arg2 h2 arg3 h3 arg4 h4 arg8 x0 x1 x2 x3 x4, sl.v600 c arg0 h0 arg1 h1 arg2 h2 arg3 h3 arg4 h4 arg8 x0 x1 x2 x3 x4] := rfl
  rw [h, run_v518, run_v544, run_v572, run_v600]
  rfl

/-- A tile's output from its parts. -/
def fin (A : FVec F S128x4096 .f32) (gw gb : Vec F S128x1 .f32) (T : FVec F S128x1024 .f32) (s q : F .f32) (t : Fin 4) : FVec F S1x128x1024 .f32 :=
  leaky (addf (addf (mulf (mulf (subf T (broadcast S128x1024 (k0_pay93 s))) (broadcast S128x1024 (k0_pay94 s q)))
      (broadcastTo S128x1024 (shapeCast S128x1 gw shapeCasts_S128x1_S128x1) broadcasts_S128x1_S128x1024))
    (broadcastTo S128x1024 (shapeCast S128x1 gb shapeCasts_S128x1_S128x1) broadcasts_S128x1_S128x1024)) (cut A t))

/-- The store of tile 0 of batch item 0. -/
theorem run_out00 : sl.v639 c arg0 h0 arg1 h1 arg2 h2 arg3 h3 arg4 h4 arg5 h5 arg6 h6 arg8 x0 x1 x2 x3 x4 x5 x6 = outTile x0 x1 x2 x3 x4 x5 x6 arg8.view 0 0 := by
  have h : sl.v639 c arg0 h0 arg1 h1 arg2 h2 arg3 h3 arg4 h4 arg5 h5 arg6 h6 arg8 x0 x1 x2 x3 x4 x5 x6 = fin (sl.v155 c arg0 h0 arg1 h1 arg2 h2 arg3 h3 x0 x1 x2 x3) (arg5.view.readAt (Elt F) (Rect.unit (s := S128x1) ![0, 0] S128x1.size inb_S128x1_S128x1_0_0).toLoadRect (h5.unread x5)) (arg6.view.readAt (Elt F) (Rect.unit (s := S128x1) ![0, 0] S128x1.size inb_S128x1_S128x1_0_0).toLoadRect (h6.unread x6)) (sl.v408 c arg0 h0 arg1 h1 arg2 h2 arg3 h3 arg4 h4 arg8 x0 x1 x2 x3 x4) (sl.v500 c arg0 h0 arg1 h1 arg2 h2 arg3 h3 arg4 h4 arg8 x0 x1 x2 x3 x4) (sl.v501 c arg0 h0 arg1 h1 arg2 h2 arg3 h3 arg4 h4 arg8 x0 x1 x2 x3 x4) 0 := rfl
  rw [h, ldc, ldc, run_v155, run_v408, run_v500, run_v501]
  rfl

/-- The store of tile 1 of batch item 0. -/
theorem run_out01 : sl.v661 c arg0 h0 arg1 h1 arg2 h2 arg3 h3 arg4 h4 arg5 h5 arg6 h6 arg8 x0 x1 x2 x3 x4 x5 x6 = outTile x0 x1 x2 x3 x4 x5 x6 arg8.view 0 1 := by
  have h : sl.v661 c arg0 h0 arg1 h1 arg2 h2 arg3 h3 arg4 h4 arg5 h5 arg6 h6 arg8 x0 x1 x2 x3 x4 x5 x6 = fin (sl.v155 c arg0 h0 arg1 h1 arg2 h2 arg3 h3 x0 x1 x2 x3) (arg5.view.readAt (Elt F) (Rect.unit (s := S128x1) ![0, 0] S128x1.size inb_S128x1_S128x1_0_0).toLoadRect (h5.unread x5)) (arg6.view.readAt (Elt F) (Rect.unit (s := S128x1) ![0, 0] S128x1.size inb_S128x1_S128x1_0_0).toLoadRect (h6.unread x6)) (sl.v434 c arg0 h0 arg1 h1 arg2 h2 arg3 h3 arg4 h4 arg8 x0 x1 x2 x3 x4) (sl.v500 c arg0 h0 arg1 h1 arg2 h2 arg3 h3 arg4 h4 arg8 x0 x1 x2 x3 x4) (sl.v501 c arg0 h0 arg1 h1 arg2 h2 arg3 h3 arg4 h4 arg8 x0 x1 x2 x3 x4) 1 := rfl
  rw [h, ldc, ldc, run_v155, run_v434, run_v500, run_v501]
  rfl

/-- The store of tile 2 of batch item 0. -/
theorem run_out02 : sl.v683 c arg0 h0 arg1 h1 arg2 h2 arg3 h3 arg4 h4 arg5 h5 arg6 h6 arg8 x0 x1 x2 x3 x4 x5 x6 = outTile x0 x1 x2 x3 x4 x5 x6 arg8.view 0 2 := by
  have h : sl.v683 c arg0 h0 arg1 h1 arg2 h2 arg3 h3 arg4 h4 arg5 h5 arg6 h6 arg8 x0 x1 x2 x3 x4 x5 x6 = fin (sl.v155 c arg0 h0 arg1 h1 arg2 h2 arg3 h3 x0 x1 x2 x3) (arg5.view.readAt (Elt F) (Rect.unit (s := S128x1) ![0, 0] S128x1.size inb_S128x1_S128x1_0_0).toLoadRect (h5.unread x5)) (arg6.view.readAt (Elt F) (Rect.unit (s := S128x1) ![0, 0] S128x1.size inb_S128x1_S128x1_0_0).toLoadRect (h6.unread x6)) (sl.v462 c arg0 h0 arg1 h1 arg2 h2 arg3 h3 arg4 h4 arg8 x0 x1 x2 x3 x4) (sl.v500 c arg0 h0 arg1 h1 arg2 h2 arg3 h3 arg4 h4 arg8 x0 x1 x2 x3 x4) (sl.v501 c arg0 h0 arg1 h1 arg2 h2 arg3 h3 arg4 h4 arg8 x0 x1 x2 x3 x4) 2 := rfl
  rw [h, ldc, ldc, run_v155, run_v462, run_v500, run_v501]
  rfl

/-- The store of tile 3 of batch item 0. -/
theorem run_out03 : sl.v705 c arg0 h0 arg1 h1 arg2 h2 arg3 h3 arg4 h4 arg5 h5 arg6 h6 arg8 x0 x1 x2 x3 x4 x5 x6 = outTile x0 x1 x2 x3 x4 x5 x6 arg8.view 0 3 := by
  have h : sl.v705 c arg0 h0 arg1 h1 arg2 h2 arg3 h3 arg4 h4 arg5 h5 arg6 h6 arg8 x0 x1 x2 x3 x4 x5 x6 = fin (sl.v155 c arg0 h0 arg1 h1 arg2 h2 arg3 h3 x0 x1 x2 x3) (arg5.view.readAt (Elt F) (Rect.unit (s := S128x1) ![0, 0] S128x1.size inb_S128x1_S128x1_0_0).toLoadRect (h5.unread x5)) (arg6.view.readAt (Elt F) (Rect.unit (s := S128x1) ![0, 0] S128x1.size inb_S128x1_S128x1_0_0).toLoadRect (h6.unread x6)) (sl.v490 c arg0 h0 arg1 h1 arg2 h2 arg3 h3 arg4 h4 arg8 x0 x1 x2 x3 x4) (sl.v500 c arg0 h0 arg1 h1 arg2 h2 arg3 h3 arg4 h4 arg8 x0 x1 x2 x3 x4) (sl.v501 c arg0 h0 arg1 h1 arg2 h2 arg3 h3 arg4 h4 arg8 x0 x1 x2 x3 x4) 3 := rfl
  rw [h, ldc, ldc, run_v155, run_v490, run_v500, run_v501]
  rfl

/-- The store of tile 0 of batch item 1. -/
theorem run_out10 : sl.v733 c arg0 h0 arg1 h1 arg2 h2 arg3 h3 arg4 h4 arg5 h5 arg6 h6 arg8 x0 x1 x2 x3 x4 x5 x6 = outTile x0 x1 x2 x3 x4 x5 x6 arg8.view 1 0 := by
  have h : sl.v733 c arg0 h0 arg1 h1 arg2 h2 arg3 h3 arg4 h4 arg5 h5 arg6 h6 arg8 x0 x1 x2 x3 x4 x5 x6 = fin (sl.v160 c arg0 h0 arg1 h1 arg2 h2 arg3 h3 x0 x1 x2 x3) (arg5.view.readAt (Elt F) (Rect.unit (s := S128x1) ![0, 0] S128x1.size inb_S128x1_S128x1_0_0).toLoadRect (h5.unread x5)) (arg6.view.readAt (Elt F) (Rect.unit (s := S128x1) ![0, 0] S128x1.size inb_S128x1_S128x1_0_0).toLoadRect (h6.unread x6)) (sl.v518 c arg0 h0 arg1 h1 arg2 h2 arg3 h3 arg4 h4 arg8 x0 x1 x2 x3 x4) (sl.v610 c arg0 h0 arg1 h1 arg2 h2 arg3 h3 arg4 h4 arg8 x0 x1 x2 x3 x4) (sl.v611 c arg0 h0 arg1 h1 arg2 h2 arg3 h3 arg4 h4 arg8 x0 x1 x2 x3 x4) 0 := rfl
  rw [h, ldc, ldc, run_v160, run_v518, run_v610, run_v611]
  rfl

/-- The store of tile 1 of batch item 1. -/
theorem run_out11 : sl.v755 c arg0 h0 arg1 h1 arg2 h2 arg3 h3 arg4 h4 arg5 h5 arg6 h6 arg8 x0 x1 x2 x3 x4 x5 x6 = outTile x0 x1 x2 x3 x4 x5 x6 arg8.view 1 1 := by
  have h : sl.v755 c arg0 h0 arg1 h1 arg2 h2 arg3 h3 arg4 h4 arg5 h5 arg6 h6 arg8 x0 x1 x2 x3 x4 x5 x6 = fin (sl.v160 c arg0 h0 arg1 h1 arg2 h2 arg3 h3 x0 x1 x2 x3) (arg5.view.readAt (Elt F) (Rect.unit (s := S128x1) ![0, 0] S128x1.size inb_S128x1_S128x1_0_0).toLoadRect (h5.unread x5)) (arg6.view.readAt (Elt F) (Rect.unit (s := S128x1) ![0, 0] S128x1.size inb_S128x1_S128x1_0_0).toLoadRect (h6.unread x6)) (sl.v544 c arg0 h0 arg1 h1 arg2 h2 arg3 h3 arg4 h4 arg8 x0 x1 x2 x3 x4) (sl.v610 c arg0 h0 arg1 h1 arg2 h2 arg3 h3 arg4 h4 arg8 x0 x1 x2 x3 x4) (sl.v611 c arg0 h0 arg1 h1 arg2 h2 arg3 h3 arg4 h4 arg8 x0 x1 x2 x3 x4) 1 := rfl
  rw [h, ldc, ldc, run_v160, run_v544, run_v610, run_v611]
  rfl

/-- The store of tile 2 of batch item 1. -/
theorem run_out12 : k0_pay107 (sl.v160 c arg0 h0 arg1 h1 arg2 h2 arg3 h3 x0 x1 x2 x3) (sl.v763 c arg0 h0 arg1 h1 arg2 h2 arg3 h3 arg4 h4 arg5 h5 arg8 x0 x1 x2 x3 x4 x5) (sl.v628 c arg6 h6 x6) = outTile x0 x1 x2 x3 x4 x5 x6 arg8.view 1 2 := by
  have h : k0_pay107 (sl.v160 c arg0 h0 arg1 h1 arg2 h2 arg3 h3 x0 x1 x2 x3) (sl.v763 c arg0 h0 arg1 h1 arg2 h2 arg3 h3 arg4 h4 arg5 h5 arg8 x0 x1 x2 x3 x4 x5) (sl.v628 c arg6 h6 x6) = fin (sl.v160 c arg0 h0 arg1 h1 arg2 h2 arg3 h3 x0 x1 x2 x3) (arg5.view.readAt (Elt F) (Rect.unit (s := S128x1) ![0, 0] S128x1.size inb_S128x1_S128x1_0_0).toLoadRect (h5.unread x5)) (arg6.view.readAt (Elt F) (Rect.unit (s := S128x1) ![0, 0] S128x1.size inb_S128x1_S128x1_0_0).toLoadRect (h6.unread x6)) (sl.v572 c arg0 h0 arg1 h1 arg2 h2 arg3 h3 arg4 h4 arg8 x0 x1 x2 x3 x4) (sl.v610 c arg0 h0 arg1 h1 arg2 h2 arg3 h3 arg4 h4 arg8 x0 x1 x2 x3 x4) (sl.v611 c arg0 h0 arg1 h1 arg2 h2 arg3 h3 arg4 h4 arg8 x0 x1 x2 x3 x4) 2 := rfl
  rw [h, ldc, ldc, run_v160, run_v572, run_v610, run_v611]
  rfl

/-- The store of tile 3 of batch item 1. -/
theorem run_out13 : k0_pay1 (sl.r_4 c arg0 h0 arg1 h1 arg2 h2 arg3 h3 arg4 h4 arg5 h5 arg6 h6 arg8 x0 x1 x2 x3 x4 x5 x6) (sl.r_5 c arg0 h0 arg1 h1 arg2 h2 arg3 h3 arg4 h4 arg5 h5 arg6 h6 arg8 x0 x1 x2 x3 x4 x5 x6) sl.cst_374 = outTile x0 x1 x2 x3 x4 x5 x6 arg8.view 1 3 := by
  have h : k0_pay1 (sl.r_4 c arg0 h0 arg1 h1 arg2 h2 arg3 h3 arg4 h4 arg5 h5 arg6 h6 arg8 x0 x1 x2 x3 x4 x5 x6) (sl.r_5 c arg0 h0 arg1 h1 arg2 h2 arg3 h3 arg4 h4 arg5 h5 arg6 h6 arg8 x0 x1 x2 x3 x4 x5 x6) sl.cst_374 = fin (sl.v160 c arg0 h0 arg1 h1 arg2 h2 arg3 h3 x0 x1 x2 x3) (arg5.view.readAt (Elt F) (Rect.unit (s := S128x1) ![0, 0] S128x1.size inb_S128x1_S128x1_0_0).toLoadRect (h5.unread x5)) (arg6.view.readAt (Elt F) (Rect.unit (s := S128x1) ![0, 0] S128x1.size inb_S128x1_S128x1_0_0).toLoadRect (h6.unread x6)) (sl.v600 c arg0 h0 arg1 h1 arg2 h2 arg3 h3 arg4 h4 arg8 x0 x1 x2 x3 x4) (sl.v610 c arg0 h0 arg1 h1 arg2 h2 arg3 h3 arg4 h4 arg8 x0 x1 x2 x3 x4) (sl.v611 c arg0 h0 arg1 h1 arg2 h2 arg3 h3 arg4 h4 arg8 x0 x1 x2 x3 x4) 3 := rfl
  rw [h, ldc, ldc, run_v160, run_v600, run_v610, run_v611]
  rfl

end

/-- The output block of the grid point is its eight stores read back, each the uniform tile of the point's input blocks. -/
theorem outsAt_eq (m : (ℓ : Loc nD τ sig) → Buf (Elt F) ℓ) (c : Dev nD) (t : Fin cfg0.N) :
    outsAt0 m c t = View.canon (outList (iblk m c 0 t) (iblk m c 1 t) (iblk m c 2 t) (iblk m c 3 t) (iblk m c 4 t) (iblk m c 5 t) (iblk m c 6 t) scM0_0.view) := by
  have h := View.read_writes_junk_eq_canon (Val := Elt F) VO0_7 (kernelRun0_A c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) (iblk m c 6 t)).1
  refine h.trans (congrArg View.canon ?_)
  unfold kernelRun0_A
  dsimp only
  rw [run_out00, run_out01, run_out02, run_out03, run_out10, run_out11, run_out12, run_out13]
  rfl

end Cert.Kern
-- ==== Proof.Final.lean ====
module

public import proofs.«01_k».proof.Proof.ValueB
public import proofs.«01_k».proof.Proof.Run
public import Idealize.ShloMosaic.Lib.StableHlo.ReadAt

@[expose] public section

set_option maxRecDepth 16384

/-! The kernel's result at an element, from the arguments as launched. -/

noncomputable section

namespace Cert.Kern

open Cert.KernelIdeal Cert.KernelIdeal.Gen Cert.KernelIdeal.Value Idealize.ShloMosaic Idealize.ShloMosaic.TcCoe Idealize.SL.Sem Cert.Model

variable (m : (ℓ : Loc nD τ sig) → Buf (Elt Ideal) ℓ) (c : Dev nD)

/-- Window 0's block is its whole array. -/
theorem whole0 (t : Fin cfg0.N) : iblk m c 0 t = V m c main_v0 := by
  obtain rfl := fin_N0 t
  have hz : ∀ a, win0_0.index t0_0 a = 0 := by decide +kernel
  funext y
  blk_point [iblk] <;> rw [hz] <;> omega

/-- Window 1's block is its whole array. -/
theorem whole1 (t : Fin cfg0.N) : iblk m c 1 t = V m c main_v2 := by
  obtain rfl := fin_N0 t
  have hz : ∀ a, win0_1.index t0_0 a = 0 := by decide +kernel
  funext y
  blk_point [iblk] <;> rw [hz] <;> omega

/-- Window 2's block is its whole array. -/
theorem whole2 (t : Fin cfg0.N) : iblk m c 2 t = V m c main_v6 := by
  obtain rfl := fin_N0 t
  have hz : ∀ a, win0_2.index t0_0 a = 0 := by decide +kernel
  funext y
  blk_point [iblk] <;> rw [hz] <;> omega

/-- Window 3's block is its whole array. -/
theorem whole3 (t : Fin cfg0.N) : iblk m c 3 t = V m c main_v8 := by
  obtain rfl := fin_N0 t
  have hz : ∀ a, win0_3.index t0_0 a = 0 := by decide +kernel
  funext y
  blk_point [iblk] <;> rw [hz] <;> omega

/-- Window 4's block is its whole array. -/
theorem whole4 (t : Fin cfg0.N) : iblk m c 4 t = V m c main_v11 := by
  obtain rfl := fin_N0 t
  have hz : ∀ a, win0_4.index t0_0 a = 0 := by decide +kernel
  funext y
  blk_point [iblk] <;> rw [hz] <;> omega

/-- Window 5's block is its whole array. -/
theorem whole5 (t : Fin cfg0.N) : iblk m c 5 t = V m c main_v12 := by
  obtain rfl := fin_N0 t
  have hz : ∀ a, win0_5.index t0_0 a = 0 := by decide +kernel
  funext y
  blk_point [iblk] <;> rw [hz] <;> omega

/-- Window 6's block is its whole array. -/
theorem whole6 (t : Fin cfg0.N) : iblk m c 6 t = V m c main_v13 := by
  obtain rfl := fin_N0 t
  have hz : ∀ a, win0_6.index t0_0 a = 0 := by decide +kernel
  funext y
  blk_point [iblk] <;> rw [hz] <;> omega

theorem in0 (t : Fin cfg0.N) (b : Fin 2) (k : Fin 128) (n : Fin 4096) : iblk m c 0 t (ix3 b k n) = m ((c : Thread nD τ).loc main_arg0) (vol b k n) := by
  rw [whole0]
  unfold V
  after_reads_at

theorem in1 (t : Fin cfg0.N) (r : Fin 384) (k : Fin 128) : iblk m c 1 t (ix2 r k) = m ((c : Thread nD τ).loc main_arg1) (ix2 (⟨r.val, by omega⟩ : Fin 512) k) := by
  rw [whole1]
  unfold V
  after_reads_at

theorem in2 (t : Fin cfg0.N) (k i : Fin 128) : iblk m c 2 t (ix2 k i) = ((show EReal from m ((c : Thread nD τ).loc main_arg6) (ix1 k)) * (show EReal from m ((c : Thread nD τ).loc main_arg4) (ix2 k i))) := by
  rw [whole2]
  unfold V
  after_reads_at

theorem in3 (t : Fin cfg0.N) (k : Fin 128) : iblk m c 3 t (ix2 k 0) = ((show EReal from m ((c : Thread nD τ).loc main_arg6) (ix1 k)) * (show EReal from m ((c : Thread nD τ).loc main_arg5) (ix1 k))) := by
  rw [whole3]
  unfold V
  after_reads_at

theorem in4 (t : Fin cfg0.N) (a p q : Fin 3) (o k : Fin 128) : iblk m c 4 t (ix3 a o (row p q k)) = m ((c : Thread nD τ).loc main_arg7) (ix5 o k a p q) := by
  rw [whole4]
  unfold V
  after_reads_at
  show m ((c : Thread nD τ).loc main_arg7) _ = m ((c : Thread nD τ).loc main_arg7) _
  have hp := p.isLt
  have hq := q.isLt
  have hk := k.isLt
  have e1 : (⟨(128 * (3 * p.val + q.val) + k.val) % 128, by omega⟩ : Fin 128) = k := Fin.ext (by show (128 * (3 * p.val + q.val) + k.val) % 128 = k.val; omega)
  have e2 : (⟨(128 * (3 * p.val + q.val) + k.val) / 384, by omega⟩ : Fin 3) = p := Fin.ext (by show (128 * (3 * p.val + q.val) + k.val) / 384 = p.val; omega)
  have e3 : (⟨(128 * (3 * p.val + q.val) + k.val) / 128 % 3, by omega⟩ : Fin 3) = q := Fin.ext (by show (128 * (3 * p.val + q.val) + k.val) / 128 % 3 = q.val; omega)
  rw [e1, e2, e3]

theorem in5 (t : Fin cfg0.N) (k : Fin 128) : iblk m c 5 t (ix2 k 0) = m ((c : Thread nD τ).loc main_arg8) (ix1 k) := by
  rw [whole5]
  unfold V
  after_reads_at

theorem in6 (t : Fin cfg0.N) (k : Fin 128) : iblk m c 6 t (ix2 k 0) = m ((c : Thread nD τ).loc main_arg9) (ix1 k) := by
  rw [whole6]
  unfold V
  after_reads_at

section

variable (x0 : (⟨5, ![2, 128, 16, 16, 16]⟩ : Shape).Idx → ℝ) (x1 : (⟨2, ![512, 128]⟩ : Shape).Idx → ℝ) (x4 : (⟨2, ![128, 128]⟩ : Shape).Idx → ℝ)
  (x5 x6 : (⟨1, ![128]⟩ : Shape).Idx → ℝ) (x7 : (⟨5, ![128, 128, 3, 3, 3]⟩ : Shape).Idx → ℝ)
  (h0 : ∀ i, m ((c : Thread nD τ).loc main_arg0) i = ((x0 i : ℝ) : EReal)) (h1 : ∀ (r : Fin 512) (r' : Fin 384) (k : Fin 128), r.val = r'.val → m ((c : Thread nD τ).loc main_arg1) (ix2 r k) = ((argW x1 r' k : ℝ) : EReal))
  (h4 : ∀ i, m ((c : Thread nD τ).loc main_arg4) i = ((x4 i : ℝ) : EReal)) (h5 : ∀ i, m ((c : Thread nD τ).loc main_arg5) i = ((x5 i : ℝ) : EReal))
  (h6 : ∀ i, m ((c : Thread nD τ).loc main_arg6) i = ((x6 i : ℝ) : EReal)) (h7 : ∀ i, m ((c : Thread nD τ).loc main_arg7) i = ((x7 i : ℝ) : EReal))

include h0 h1 h4 h5 h6 h7

/-- The output block at an element. -/
theorem block_at (t : Fin cfg0.N) (b : Fin 2) (o : Fin 128) (n : Fin 4096) :
    outsAt0 m c t (ix3 b o n)
      = result x0 x1 x4 x5 x6 x7 (m ((c : Thread nD τ).loc main_arg8)) (m ((c : Thread nD τ).loc main_arg9)) b o n := by
  rw [outsAt_eq]
  refine (out_at _ _ _ _ _ _ _ _ (argX x0) (argW x1) (fun k i => x4 (ix2 k i)) (fun k => x5 (ix1 k)) (fun k => x6 (ix1 k)) (fun o k a p q => x7 (ix5 o k a p q))
    (fun b k n => (in0 m c t b k n).trans (h0 _)) (fun r k => (in1 m c t r k).trans (h1 _ r k rfl)) (fun k i => (in2 m c t k i).trans ?_) (fun k => (in3 m c t k).trans ?_)
    (fun a o p q k => (in4 m c t a p q o k).trans (h7 _)) b o n).trans ?_
  · rw [h6, h4]; exact (EReal.coe_mul _ _).symm
  · rw [h6, h5]; exact (EReal.coe_mul _ _).symm
  · rw [in5, in6]; rfl

/-- The kernel's result array at an element. -/
theorem array_at (b : Fin 2) (o : Fin 128) (n : Fin 4096) :
    (dats m 0 c).arrAt 7 cfg0.N (ix3 b o n)
      = result x0 x1 x4 x5 x6 x7 (m ((c : Thread nD τ).loc main_arg8)) (m ((c : Thread nD τ).loc main_arg9)) b o n := by
  have h := (dats m 0 c).arrAt_eq_of_covers 7 (fun y : S2x128x4096.Idx => result x0 x1 x4 x5 x6 x7 (m ((c : Thread nD τ).loc main_arg8)) (m ((c : Thread nD τ).loc main_arg9)) (y 0) (y 1) (y 2))
    (by decide +kernel) fun t hf y => ?_
  · exact congrFun h _
  · obtain rfl := fin_N0 t
    have hz : ∀ a, win0_7.index t0_0 a = 0 := by decide +kernel
    idx_vars y
    blk_simp
    rw [after0_7]
    have e : ∀ G : S2x128x4096.Idx → EReal, G ((win0_7.blk t0_0).view.emb (ix3 y0 y1 y2)) = G (ix3 y0 y1 y2) := by
      intro G
      blk_point [] <;> rw [hz] <;> omega
    exact (block_at m c x0 x1 x4 x5 x6 x7 h0 h1 h4 h5 h6 h7 t0_0 y0 y1 y2).trans
      (e fun y => result x0 x1 x4 x5 x6 x7 (m ((c : Thread nD τ).loc main_arg8)) (m ((c : Thread nD τ).loc main_arg9)) (y 0) (y 1) (y 2)).symm

end

end Cert.Kern
-- ==== Proof.RefA.lean ====
module

public import proofs.«01_k».proof.Proof.Scalars
public import proofs.«01_k».proof.Proof.Gen.ReferenceIdeal.Read

@[expose] public section

set_option maxRecDepth 16384

/-! The reference's attention, element by element over the reals. -/

noncomputable section

namespace Cert.Ref

open Cert.ReferenceIdeal Cert.ReferenceIdeal.Gen Cert.ReferenceIdeal.Read Idealize.ShloMosaic Idealize.ShloMosaic.TcCoe Idealize.SL.Sem Cert.Model

section

variable (a0 : (⟨S2x128x16x16x16, .f32⟩ : BufTy).Contents (Elt Ideal)) (a1 : (⟨S512x128, .f32⟩ : BufTy).Contents (Elt Ideal))
  (x0 : (⟨5, ![2, 128, 16, 16, 16]⟩ : Shape).Idx → ℝ) (x1 : (⟨2, ![512, 128]⟩ : Shape).Idx → ℝ)
  (h0 : ∀ i, a0 i = ((x0 i : ℝ) : EReal)) (h1 : ∀ (r : Fin 512) (r' : Fin 384) (k : Fin 128), r.val = r'.val → a1 (ix2 r k) = ((argW x1 r' k : ℝ) : EReal))

/-- The projections of one batch item. -/
abbrev Qb (b : Fin 2) : Fin 384 → Fin 4096 → ℝ := qkv (argW x1) (argX x0 b)

include h0 in
theorem v1_at (b : Fin 2) (n : Fin 4096) (k : Fin 128) : val_main_v1 (F := Ideal) a0 (ix3 b n k) = ((argX x0 b k n : ℝ) : EReal) := by
  pointwise [val_main_v1, val_main_v0]
  exact h0 _

include h0 h1

theorem v3_at (b : Fin 2) (n : Fin 4096) (r : Fin 512) (r' : Fin 384) (hr : r.val = r'.val) :
    val_main_v3 (F := Ideal) a0 a1 (ix3 b n r) = ((Qb x0 x1 b r' n : ℝ) : EReal) := by
  pointwise [val_main_v3, val_main_v2]
  simp only [v1_at a0 x0 h0, h1 r r' _ hr, qkv, coe_sum, EReal.coe_mul]
  refine Finset.sum_congr rfl fun k _ => mul_comm _ _

theorem v7_at (b : Fin 2) (h : Fin 4) (n : Fin 4096) (d : Fin 32) :
    val_main_v7 (F := Ideal) a0 a1 (ix4 b h n d) = ((Qb x0 x1 b (qi (ch h d)) n : ℝ) : EReal) := by
  pointwise [val_main_v7, val_main_v6, val_main_v5, val_main_v4]
  refine v3_at a0 a1 x0 x1 h0 h1 _ _ _ _ ?_
  show h.val * 32 + d.val = 32 * h.val + d.val
  omega

theorem v9_at (b : Fin 2) (h : Fin 4) (n : Fin 4096) (d : Fin 32) :
    val_main_v9 (F := Ideal) a0 a1 (ix4 b h n d) = ((Qb x0 x1 b (ki (ch h d)) n : ℝ) : EReal) := by
  pointwise [val_main_v9, val_main_v8, val_main_v5, val_main_v4]
  refine v3_at a0 a1 x0 x1 h0 h1 _ _ _ _ ?_
  show 128 + h.val * 32 + d.val = 128 + (32 * h.val + d.val)
  omega

theorem v11_at (b : Fin 2) (h : Fin 4) (n : Fin 4096) (d : Fin 32) :
    val_main_v11 (F := Ideal) a0 a1 (ix4 b h n d) = ((Qb x0 x1 b (vi (ch h d)) n : ℝ) : EReal) := by
  pointwise [val_main_v11, val_main_v10, val_main_v5, val_main_v4]
  refine v3_at a0 a1 x0 x1 h0 h1 _ _ _ _ ?_
  show 256 + h.val * 32 + d.val = 256 + (32 * h.val + d.val)
  omega

theorem v17_at (b : Fin 2) (h : Fin 4) (d : Fin 32) :
    val_main_v17 (F := Ideal) a0 a1 (ix4 b h 0 d) = ((nrm eps (Qb x0 x1 b) (qi (ch h d)) : ℝ) : EReal) := by
  pointwise [val_main_v17, val_main_v16, val_main_v15, val_main_v14, val_main_v13, val_main_v12, val_main_cst, val_main_cst_0]
  simp only [v7_at a0 a1 x0 x1 h0 h1, ofBits_eps]
  simp only [← EReal.coe_mul, ← coe_sum]
  exact norm_at _

theorem v25_at (b : Fin 2) (h : Fin 4) (d : Fin 32) :
    val_main_v25 (F := Ideal) a0 a1 (ix4 b h 0 d) = ((nrm eps (Qb x0 x1 b) (ki (ch h d)) : ℝ) : EReal) := by
  pointwise [val_main_v25, val_main_v24, val_main_v23, val_main_v22, val_main_v21, val_main_v20, val_main_cst_1, val_main_cst_2]
  simp only [v9_at a0 a1 x0 x1 h0 h1, ofBits_eps, ← EReal.coe_mul, ← coe_sum]
  exact norm_at _

/-- The scores of one head. -/
theorem v32_at (b : Fin 2) (h : Fin 4) (d d' : Fin 32) :
    val_main_v32 (F := Ideal) a0 a1 (ix4 b h d d') = ((score eps (Qb x0 x1 b) (ch h d) (ch h d') : ℝ) : EReal) := by
  pointwise [val_main_v32, val_main_v31, val_main_v29, val_main_v28, val_main_v27, val_main_v26, val_main_v19, val_main_v18]
  simp only [v7_at a0 a1 x0 x1 h0 h1, v9_at a0 a1 x0 x1 h0 h1, v17_at a0 a1 x0 x1 h0 h1, v25_at a0 a1 x0 x1 h0 h1]
  have hd : ∀ r n, Ideal.div ((Qb x0 x1 b r n : ℝ) : EReal) ((nrm eps (Qb x0 x1 b) r : ℝ) : EReal) = ((Qb x0 x1 b r n / nrm eps (Qb x0 x1 b) r : ℝ) : EReal) :=
    fun r n => div_real _ _ (nrm_pos eps_pos _ r).ne'
  simp only [hd, ← EReal.coe_mul, ← coe_sum]
  exact congrArg _ (score_eq _ _ _ _)

/-- The attention weights of one head. -/
theorem v43_at (b : Fin 2) (h : Fin 4) (d d' : Fin 32) :
    val_main_v43 (F := Ideal) a0 a1 (ix4 b h d d') = ((weight eps (Qb x0 x1 b) (ch h d) (ch h d') : ℝ) : EReal) := by
  have hm : ∃ M : ℝ, ∀ z : Fin 1, val_main_v36 (F := Ideal) a0 a1 (ix4 b h d z) = ((M : ℝ) : EReal) := by
    obtain ⟨M, hM⟩ := fold_max_real (fun k : Fin 32 => ((score eps (Qb x0 x1 b) (ch h d) (ch h k) : ℝ) : EReal)) (fun k => .inr ⟨_, rfl⟩) d ⟨_, rfl⟩
    refine ⟨M, fun z => ?_⟩
    pointwise [val_main_v36, val_main_v35, val_main_v34, val_main_v33, val_main_cst_3, val_main_cst_4]
    simp only [v32_at a0 a1 x0 x1 h0 h1, ofBits_bot, hM]
    simp
  obtain ⟨M, hM⟩ := hm
  have he : ∀ k, val_main_v39 (F := Ideal) a0 a1 (ix4 b h d k) = ((Real.exp (score eps (Qb x0 x1 b) (ch h d) (ch h k) - M) : ℝ) : EReal) := by
    intro k
    pointwise [val_main_v39, val_main_v38, val_main_v37]
    rw [v32_at a0 a1 x0 x1 h0 h1, hM, ← EReal.coe_sub]
    rfl
  pointwise [val_main_v43, val_main_v42, val_main_v41, val_main_v40, val_main_cst_5]
  simp only [he, ← coe_sum]
  rw [div_real _ _ (Finset.sum_pos (fun k _ => Real.exp_pos _) ⟨d, Finset.mem_univ _⟩).ne', weight_head]

/-- The weighted values of one channel. -/
theorem v44_at (b : Fin 2) (h : Fin 4) (d : Fin 32) (n : Fin 4096) :
    val_main_v44 (F := Ideal) a0 a1 (ix4 b h d n) = ((∑ j, weight eps (Qb x0 x1 b) (ch h d) j * Qb x0 x1 b (vi j) n : ℝ) : EReal) := by
  pointwise [val_main_v44, val_main_v30]
  simp only [v43_at a0 a1 x0 x1 h0 h1, v11_at a0 a1 x0 x1 h0 h1, ← EReal.coe_mul, ← coe_sum]
  exact congrArg _ (values_head _ _ _ _ _)

theorem v46_at (b : Fin 2) (n : Fin 4096) (i : Fin 128) :
    val_main_v46 (F := Ideal) a0 a1 (ix3 b n i) = ((∑ j, weight eps (Qb x0 x1 b) i j * Qb x0 x1 b (vi j) n : ℝ) : EReal) := by
  have hi := i.isLt
  have e : ch ⟨i.val / 32, by omega⟩ ⟨i.val % 32, by omega⟩ = i := Fin.ext (by show 32 * (i.val / 32) + i.val % 32 = i.val; omega)
  pointwise [val_main_v46, val_main_v45]
  rw [v44_at a0 a1 x0 x1 h0 h1, e]

section

variable (a4 : (⟨S128x128, .f32⟩ : BufTy).Contents (Elt Ideal)) (a5 a6 : (⟨S128, .f32⟩ : BufTy).Contents (Elt Ideal))
  (x4 : (⟨2, ![128, 128]⟩ : Shape).Idx → ℝ) (x5 x6 : (⟨1, ![128]⟩ : Shape).Idx → ℝ)
  (h4 : ∀ i, a4 i = ((x4 i : ℝ) : EReal)) (h5 : ∀ i, a5 i = ((x5 i : ℝ) : EReal)) (h6 : ∀ i, a6 i = ((x6 i : ℝ) : EReal))

include h4 h5 h6

/-- The attention and residual sum. -/
theorem v55_at (b : Fin 2) (n : Fin 4096) (k : Fin 128) :
    val_main_v55 (F := Ideal) a0 a1 a4 a5 a6 (ix3 b n k) = ((sumT x0 x1 x4 x5 x6 b k n : ℝ) : EReal) := by
  unfold sumT
  rw [← att_eq]
  pointwise [val_main_v55, val_main_v54, val_main_v53, val_main_v52, val_main_v51, val_main_v50, val_main_v49, val_main_v48, val_main_v47]
  simp only [v46_at a0 a1 x0 x1 h0 h1, v1_at a0 x0 h0, h4, h5, h6, ← EReal.coe_mul, ← coe_sum, ← EReal.coe_add]

/-- The same, as a volume. -/
theorem v57_at (b : Fin 2) (k : Fin 128) (u v s : Fin 16) :
    val_main_v57 (F := Ideal) a0 a1 a4 a5 a6 (ix5 b k u v s)
      = ((sumT x0 x1 x4 x5 x6 b k ⟨256 * u.val + 16 * v.val + s.val, by omega⟩ : ℝ) : EReal) := by
  pointwise [val_main_v57, val_main_v56]
  rw [v55_at a0 a1 x0 x1 h0 h1 a4 a5 a6 x4 x5 x6 h4 h5 h6]
  exact congrArg (fun n => ((sumT x0 x1 x4 x5 x6 b k n : ℝ) : EReal)) (Fin.ext (by show u.val * 256 + v.val * 16 + s.val = 256 * u.val + 16 * v.val + s.val; omega))

end

end

end Cert.Ref
-- ==== Proof.RefB.lean ====
module

public import proofs.«01_k».proof.Proof.RefA
public import Mathlib.Algebra.BigOperators.Fin

@[expose] public section

set_option maxRecDepth 16384

/-! The reference's convolution, element by element over the reals: the volume padded with zeros, and one
    product with the weights for each of the 27 taps. -/

noncomputable section

namespace Cert.Ref

open Cert.ReferenceIdeal Cert.ReferenceIdeal.Gen Cert.ReferenceIdeal.Read Idealize.ShloMosaic Idealize.ShloMosaic.TcCoe Idealize.SL.Sem Cert.Model

/-- A volume of 16 by 16 by 16 with one layer of zeros on each side, at the padded coordinates. -/
def padT (T : Fin 128 → Fin 4096 → ℝ) (c : Fin 128) (u v s : ℕ) : ℝ :=
  if (1 ≤ u ∧ u - 1 < 16) ∧ (1 ≤ v ∧ v - 1 < 16) ∧ 1 ≤ s ∧ s - 1 < 16 then ext T c (256 * (u - 1) + 16 * (v - 1) + (s - 1)) else 0

/-- A tap is the padded volume at the moved coordinates. -/
theorem padT_tap (T : Fin 128 → Fin 4096 → ℝ) (c : Fin 128) (a p q : Fin 3) (h w d : Fin 16) :
    padT T c (a.val + h.val) (p.val + w.val) (q.val + d.val) = tap T c p q (256 * a.val + (256 * h.val + 16 * w.val + d.val)) := by
  have ha := a.isLt; have hp := p.isLt; have hq := q.isLt; have hh := h.isLt; have hw := w.isLt; have hd := d.isLt
  unfold padT tap
  have e1 : (256 * a.val + (256 * h.val + 16 * w.val + d.val) - 256) % 16 = d.val ∨ a.val + h.val = 0 := by omega
  have e2 : (256 * a.val + (256 * h.val + 16 * w.val + d.val) - 256) / 16 % 16 = w.val ∨ a.val + h.val = 0 := by omega
  by_cases h1 : (1 ≤ a.val + h.val ∧ a.val + h.val - 1 < 16) ∧ (1 ≤ p.val + w.val ∧ p.val + w.val - 1 < 16) ∧ 1 ≤ q.val + d.val ∧ q.val + d.val - 1 < 16
  · rw [if_pos h1, if_pos (by omega)]
    congr 1
    omega
  · rw [if_neg h1, if_neg (by omega)]

/-- The contribution of one tap to the convolution. -/
def tapSum (w : Fin 128 → Fin 128 → Fin 3 → Fin 3 → Fin 3 → ℝ) (T : Fin 128 → Fin 4096 → ℝ) (o : Fin 128) (n : Fin 4096) (a p q : Fin 3) : ℝ :=
  ∑ c, w o c a p q * tap T c p q (256 * a.val + n.val)

theorem conv_eq (w : Fin 128 → Fin 128 → Fin 3 → Fin 3 → Fin 3 → ℝ) (T : Fin 128 → Fin 4096 → ℝ) (o : Fin 128) (n : Fin 4096) :
    conv w T o n = ∑ a, ∑ p, ∑ q, tapSum w T o n a p q := rfl

/-- The position with coordinates `(h, w, d)`. -/
def pos (h w d : Fin 16) : Fin 4096 := ⟨256 * h.val + 16 * w.val + d.val, by omega⟩

theorem sitofp_zero : FloatOps.sitofp (F := Ideal) FTy.f32 0#32 = ((0 : ℝ) : EReal) := by
  show (((0#32 : BitVec 32).toInt : ℝ) : EReal) = _
  simp

section

variable (a0 : (⟨S2x128x16x16x16, .f32⟩ : BufTy).Contents (Elt Ideal)) (a1 : (⟨S512x128, .f32⟩ : BufTy).Contents (Elt Ideal))
  (a4 : (⟨S128x128, .f32⟩ : BufTy).Contents (Elt Ideal)) (a5 a6 : (⟨S128, .f32⟩ : BufTy).Contents (Elt Ideal))
  (a7 : (⟨S128x128x3x3x3, .f32⟩ : BufTy).Contents (Elt Ideal))
  (x0 : (⟨5, ![2, 128, 16, 16, 16]⟩ : Shape).Idx → ℝ) (x1 : (⟨2, ![512, 128]⟩ : Shape).Idx → ℝ)
  (x4 : (⟨2, ![128, 128]⟩ : Shape).Idx → ℝ) (x5 x6 : (⟨1, ![128]⟩ : Shape).Idx → ℝ)
  (x7 : (⟨5, ![128, 128, 3, 3, 3]⟩ : Shape).Idx → ℝ)
  (h0 : ∀ i, a0 i = ((x0 i : ℝ) : EReal)) (h1 : ∀ (r : Fin 512) (r' : Fin 384) (k : Fin 128), r.val = r'.val → a1 (ix2 r k) = ((argW x1 r' k : ℝ) : EReal))
  (h4 : ∀ i, a4 i = ((x4 i : ℝ) : EReal)) (h5 : ∀ i, a5 i = ((x5 i : ℝ) : EReal)) (h6 : ∀ i, a6 i = ((x6 i : ℝ) : EReal))
  (h7 : ∀ i, a7 i = ((x7 i : ℝ) : EReal))

include h0 h1 h4 h5 h6

/-- The padded sum. -/
theorem v58_at (b : Fin 2) (k : Fin 128) (u v s : Fin 18) :
    val_main_v58 (F := Ideal) a0 a1 a4 a5 a6 (ix5 b k u v s) = ((padT (sumT x0 x1 x4 x5 x6 b) k u v s : ℝ) : EReal) := by
  pointwise [val_main_v58, val_main_call0_v0, val_main_c]
  unfold padT
  split
  · rename_i h
    rw [v57_at a0 a1 x0 x1 h0 h1 a4 a5 a6 x4 x5 x6 h4 h5 h6]
    unfold ext
    rw [dif_pos (by omega)]
  · rename_i h
    exact sitofp_zero

include h7

/-- One tap: the padded sum at the moved coordinates, times the weights of the tap, summed over the channels. -/
theorem term_at (b : Fin 2) (o : Fin 128) (h w d : Fin 16) (a p q : Fin 3) (u v s : Fin 18) (hu : u.val = a.val + h.val)
    (hv : v.val = p.val + w.val) (hs : s.val = q.val + d.val) :
    ∑ k : Fin 128, val_main_v58 (F := Ideal) a0 a1 a4 a5 a6 (ix5 b k u v s) * a7 (ix5 o k a p q)
      = ((tapSum (fun o k a p q => x7 (ix5 o k a p q)) (sumT x0 x1 x4 x5 x6 b) o (pos h w d) a p q : ℝ) : EReal) := by
  simp only [v58_at a0 a1 a4 a5 a6 x0 x1 x4 x5 x6 h0 h1 h4 h5 h6, h7, hu, hv, hs, padT_tap, ← EReal.coe_mul, ← coe_sum]
  refine congrArg _ (Finset.sum_congr rfl fun k _ => mul_comm _ _)

theorem v63_at (b : Fin 2) (o : Fin 128) (h w d : Fin 16) : val_main_v63 (F := Ideal) a0 a1 a4 a5 a6 a7 (ix5 b o h w d)
    = ((tapSum (fun o k a p q => x7 (ix5 o k a p q)) (sumT x0 x1 x4 x5 x6 b) o (pos h w d) 0 0 0 : ℝ) : EReal) := by
  pointwise [val_main_v63, val_main_v62, val_main_v61, val_main_v60, val_main_v59]
  exact term_at a0 a1 a4 a5 a6 a7 x0 x1 x4 x5 x6 x7 h0 h1 h4 h5 h6 h7 b o h w d 0 0 0 _ _ _ (by simp) (by simp) (by simp)

theorem v68_at (b : Fin 2) (o : Fin 128) (h w d : Fin 16) : val_main_v68 (F := Ideal) a0 a1 a4 a5 a6 a7 (ix5 b o h w d)
    = ((tapSum (fun o k a p q => x7 (ix5 o k a p q)) (sumT x0 x1 x4 x5 x6 b) o (pos h w d) 0 0 1 : ℝ) : EReal) := by
  pointwise [val_main_v68, val_main_v67, val_main_v66, val_main_v65, val_main_v64]
  exact term_at a0 a1 a4 a5 a6 a7 x0 x1 x4 x5 x6 x7 h0 h1 h4 h5 h6 h7 b o h w d 0 0 1 _ _ _ (by simp) (by simp) (by simp)

theorem v74_at (b : Fin 2) (o : Fin 128) (h w d : Fin 16) : val_main_v74 (F := Ideal) a0 a1 a4 a5 a6 a7 (ix5 b o h w d)
    = ((tapSum (fun o k a p q => x7 (ix5 o k a p q)) (sumT x0 x1 x4 x5 x6 b) o (pos h w d) 0 0 2 : ℝ) : EReal) := by
  pointwise [val_main_v74, val_main_v73, val_main_v72, val_main_v71, val_main_v70]
  exact term_at a0 a1 a4 a5 a6 a7 x0 x1 x4 x5 x6 x7 h0 h1 h4 h5 h6 h7 b o h w d 0 0 2 _ _ _ (by simp) (by simp) (by simp)

theorem v80_at (b : Fin 2) (o : Fin 128) (h w d : Fin 16) : val_main_v80 (F := Ideal) a0 a1 a4 a5 a6 a7 (ix5 b o h w d)
    = ((tapSum (fun o k a p q => x7 (ix5 o k a p q)) (sumT x0 x1 x4 x5 x6 b) o (pos h w d) 0 1 0 : ℝ) : EReal) := by
  pointwise [val_main_v80, val_main_v79, val_main_v78, val_main_v77, val_main_v76]
  exact term_at a0 a1 a4 a5 a6 a7 x0 x1 x4 x5 x6 x7 h0 h1 h4 h5 h6 h7 b o h w d 0 1 0 _ _ _ (by simp) (by simp) (by simp)

theorem v86_at (b : Fin 2) (o : Fin 128) (h w d : Fin 16) : val_main_v86 (F := Ideal) a0 a1 a4 a5 a6 a7 (ix5 b o h w d)
    = ((tapSum (fun o k a p q => x7 (ix5 o k a p q)) (sumT x0 x1 x4 x5 x6 b) o (pos h w d) 0 1 1 : ℝ) : EReal) := by
  pointwise [val_main_v86, val_main_v85, val_main_v84, val_main_v83, val_main_v82]
  exact term_at a0 a1 a4 a5 a6 a7 x0 x1 x4 x5 x6 x7 h0 h1 h4 h5 h6 h7 b o h w d 0 1 1 _ _ _ (by simp) (by simp) (by simp)

theorem v92_at (b : Fin 2) (o : Fin 128) (h w d : Fin 16) : val_main_v92 (F := Ideal) a0 a1 a4 a5 a6 a7 (ix5 b o h w d)
    = ((tapSum (fun o k a p q => x7 (ix5 o k a p q)) (sumT x0 x1 x4 x5 x6 b) o (pos h w d) 0 1 2 : ℝ) : EReal) := by
  pointwise [val_main_v92, val_main_v91, val_main_v90, val_main_v89, val_main_v88]
  exact term_at a0 a1 a4 a5 a6 a7 x0 x1 x4 x5 x6 x7 h0 h1 h4 h5 h6 h7 b o h w d 0 1 2 _ _ _ (by simp) (by simp) (by simp)

theorem v98_at (b : Fin 2) (o : Fin 128) (h w d : Fin 16) : val_main_v98 (F := Ideal) a0 a1 a4 a5 a6 a7 (ix5 b o h w d)
    = ((tapSum (fun o k a p q => x7 (ix5 o k a p q)) (sumT x0 x1 x4 x5 x6 b) o (pos h w d) 0 2 0 : ℝ) : EReal) := by
  pointwise [val_main_v98, val_main_v97, val_main_v96, val_main_v95, val_main_v94]
  exact term_at a0 a1 a4 a5 a6 a7 x0 x1 x4 x5 x6 x7 h0 h1 h4 h5 h6 h7 b o h w d 0 2 0 _ _ _ (by simp) (by simp) (by simp)

theorem v104_at (b : Fin 2) (o : Fin 128) (h w d : Fin 16) : val_main_v104 (F := Ideal) a0 a1 a4 a5 a6 a7 (ix5 b o h w d)
    = ((tapSum (fun o k a p q => x7 (ix5 o k a p q)) (sumT x0 x1 x4 x5 x6 b) o (pos h w d) 0 2 1 : ℝ) : EReal) := by
  pointwise [val_main_v104, val_main_v103, val_main_v102, val_main_v101, val_main_v100]
  exact term_at a0 a1 a4 a5 a6 a7 x0 x1 x4 x5 x6 x7 h0 h1 h4 h5 h6 h7 b o h w d 0 2 1 _ _ _ (by simp) (by simp) (by simp)

theorem v110_at (b : Fin 2) (o : Fin 128) (h w d : Fin 16) : val_main_v110 (F := Ideal) a0 a1 a4 a5 a6 a7 (ix5 b o h w d)
    = ((tapSum (fun o k a p q => x7 (ix5 o k a p q)) (sumT x0 x1 x4 x5 x6 b) o (pos h w d) 0 2 2 : ℝ) : EReal) := by
  pointwise [val_main_v110, val_main_v109, val_main_v108, val_main_v107, val_main_v106]
  exact term_at a0 a1 a4 a5 a6 a7 x0 x1 x4 x5 x6 x7 h0 h1 h4 h5 h6 h7 b o h w d 0 2 2 _ _ _ (by simp) (by simp) (by simp)

theorem v116_at (b : Fin 2) (o : Fin 128) (h w d : Fin 16) : val_main_v116 (F := Ideal) a0 a1 a4 a5 a6 a7 (ix5 b o h w d)
    = ((tapSum (fun o k a p q => x7 (ix5 o k a p q)) (sumT x0 x1 x4 x5 x6 b) o (pos h w d) 1 0 0 : ℝ) : EReal) := by
  pointwise [val_main_v116, val_main_v115, val_main_v114, val_main_v113, val_main_v112]
  exact term_at a0 a1 a4 a5 a6 a7 x0 x1 x4 x5 x6 x7 h0 h1 h4 h5 h6 h7 b o h w d 1 0 0 _ _ _ (by simp) (by simp) (by simp)

theorem v122_at (b : Fin 2) (o : Fin 128) (h w d : Fin 16) : val_main_v122 (F := Ideal) a0 a1 a4 a5 a6 a7 (ix5 b o h w d)
    = ((tapSum (fun o k a p q => x7 (ix5 o k a p q)) (sumT x0 x1 x4 x5 x6 b) o (pos h w d) 1 0 1 : ℝ) : EReal) := by
  pointwise [val_main_v122, val_main_v121, val_main_v120, val_main_v119, val_main_v118]
  exact term_at a0 a1 a4 a5 a6 a7 x0 x1 x4 x5 x6 x7 h0 h1 h4 h5 h6 h7 b o h w d 1 0 1 _ _ _ (by simp) (by simp) (by simp)

theorem v128_at (b : Fin 2) (o : Fin 128) (h w d : Fin 16) : val_main_v128 (F := Ideal) a0 a1 a4 a5 a6 a7 (ix5 b o h w d)
    = ((tapSum (fun o k a p q => x7 (ix5 o k a p q)) (sumT x0 x1 x4 x5 x6 b) o (pos h w d) 1 0 2 : ℝ) : EReal) := by
  pointwise [val_main_v128, val_main_v127, val_main_v126, val_main_v125, val_main_v124]
  exact term_at a0 a1 a4 a5 a6 a7 x0 x1 x4 x5 x6 x7 h0 h1 h4 h5 h6 h7 b o h w d 1 0 2 _ _ _ (by simp) (by simp) (by simp)

theorem v134_at (b : Fin 2) (o : Fin 128) (h w d : Fin 16) : val_main_v134 (F := Ideal) a0 a1 a4 a5 a6 a7 (ix5 b o h w d)
    = ((tapSum (fun o k a p q => x7 (ix5 o k a p q)) (sumT x0 x1 x4 x5 x6 b) o (pos h w d) 1 1 0 : ℝ) : EReal) := by
  pointwise [val_main_v134, val_main_v133, val_main_v132, val_main_v131, val_main_v130]
  exact term_at a0 a1 a4 a5 a6 a7 x0 x1 x4 x5 x6 x7 h0 h1 h4 h5 h6 h7 b o h w d 1 1 0 _ _ _ (by simp) (by simp) (by simp)

theorem v140_at (b : Fin 2) (o : Fin 128) (h w d : Fin 16) : val_main_v140 (F := Ideal) a0 a1 a4 a5 a6 a7 (ix5 b o h w d)
    = ((tapSum (fun o k a p q => x7 (ix5 o k a p q)) (sumT x0 x1 x4 x5 x6 b) o (pos h w d) 1 1 1 : ℝ) : EReal) := by
  pointwise [val_main_v140, val_main_v139, val_main_v138, val_main_v137, val_main_v136]
  exact term_at a0 a1 a4 a5 a6 a7 x0 x1 x4 x5 x6 x7 h0 h1 h4 h5 h6 h7 b o h w d 1 1 1 _ _ _ (by simp) (by simp) (by simp)

theorem v146_at (b : Fin 2) (o : Fin 128) (h w d : Fin 16) : val_main_v146 (F := Ideal) a0 a1 a4 a5 a6 a7 (ix5 b o h w d)
    = ((tapSum (fun o k a p q => x7 (ix5 o k a p q)) (sumT x0 x1 x4 x5 x6 b) o (pos h w d) 1 1 2 : ℝ) : EReal) := by
  pointwise [val_main_v146, val_main_v145, val_main_v144, val_main_v143, val_main_v142]
  exact term_at a0 a1 a4 a5 a6 a7 x0 x1 x4 x5 x6 x7 h0 h1 h4 h5 h6 h7 b o h w d 1 1 2 _ _ _ (by simp) (by simp) (by simp)

theorem v152_at (b : Fin 2) (o : Fin 128) (h w d : Fin 16) : val_main_v152 (F := Ideal) a0 a1 a4 a5 a6 a7 (ix5 b o h w d)
    = ((tapSum (fun o k a p q => x7 (ix5 o k a p q)) (sumT x0 x1 x4 x5 x6 b) o (pos h w d) 1 2 0 : ℝ) : EReal) := by
  pointwise [val_main_v152, val_main_v151, val_main_v150, val_main_v149, val_main_v148]
  exact term_at a0 a1 a4 a5 a6 a7 x0 x1 x4 x5 x6 x7 h0 h1 h4 h5 h6 h7 b o h w d 1 2 0 _ _ _ (by simp) (by simp) (by simp)

theorem v158_at (b : Fin 2) (o : Fin 128) (h w d : Fin 16) : val_main_v158 (F := Ideal) a0 a1 a4 a5 a6 a7 (ix5 b o h w d)
    = ((tapSum (fun o k a p q => x7 (ix5 o k a p q)) (sumT x0 x1 x4 x5 x6 b) o (pos h w d) 1 2 1 : ℝ) : EReal) := by
  pointwise [val_main_v158, val_main_v157, val_main_v156, val_main_v155, val_main_v154]
  exact term_at a0 a1 a4 a5 a6 a7 x0 x1 x4 x5 x6 x7 h0 h1 h4 h5 h6 h7 b o h w d 1 2 1 _ _ _ (by simp) (by simp) (by simp)

theorem v164_at (b : Fin 2) (o : Fin 128) (h w d : Fin 16) : val_main_v164 (F := Ideal) a0 a1 a4 a5 a6 a7 (ix5 b o h w d)
    = ((tapSum (fun o k a p q => x7 (ix5 o k a p q)) (sumT x0 x1 x4 x5 x6 b) o (pos h w d) 1 2 2 : ℝ) : EReal) := by
  pointwise [val_main_v164, val_main_v163, val_main_v162, val_main_v161, val_main_v160]
  exact term_at a0 a1 a4 a5 a6 a7 x0 x1 x4 x5 x6 x7 h0 h1 h4 h5 h6 h7 b o h w d 1 2 2 _ _ _ (by simp) (by simp) (by simp)

theorem v170_at (b : Fin 2) (o : Fin 128) (h w d : Fin 16) : val_main_v170 (F := Ideal) a0 a1 a4 a5 a6 a7 (ix5 b o h w d)
    = ((tapSum (fun o k a p q => x7 (ix5 o k a p q)) (sumT x0 x1 x4 x5 x6 b) o (pos h w d) 2 0 0 : ℝ) : EReal) := by
  pointwise [val_main_v170, val_main_v169, val_main_v168, val_main_v167, val_main_v166]
  exact term_at a0 a1 a4 a5 a6 a7 x0 x1 x4 x5 x6 x7 h0 h1 h4 h5 h6 h7 b o h w d 2 0 0 _ _ _ (by simp) (by simp) (by simp)

theorem v176_at (b : Fin 2) (o : Fin 128) (h w d : Fin 16) : val_main_v176 (F := Ideal) a0 a1 a4 a5 a6 a7 (ix5 b o h w d)
    = ((tapSum (fun o k a p q => x7 (ix5 o k a p q)) (sumT x0 x1 x4 x5 x6 b) o (pos h w d) 2 0 1 : ℝ) : EReal) := by
  pointwise [val_main_v176, val_main_v175, val_main_v174, val_main_v173, val_main_v172]
  exact term_at a0 a1 a4 a5 a6 a7 x0 x1 x4 x5 x6 x7 h0 h1 h4 h5 h6 h7 b o h w d 2 0 1 _ _ _ (by simp) (by simp) (by simp)

theorem v182_at (b : Fin 2) (o : Fin 128) (h w d : Fin 16) : val_main_v182 (F := Ideal) a0 a1 a4 a5 a6 a7 (ix5 b o h w d)
    = ((tapSum (fun o k a p q => x7 (ix5 o k a p q)) (sumT x0 x1 x4 x5 x6 b) o (pos h w d) 2 0 2 : ℝ) : EReal) := by
  pointwise [val_main_v182, val_main_v181, val_main_v180, val_main_v179, val_main_v178]
  exact term_at a0 a1 a4 a5 a6 a7 x0 x1 x4 x5 x6 x7 h0 h1 h4 h5 h6 h7 b o h w d 2 0 2 _ _ _ (by simp) (by simp) (by simp)

theorem v188_at (b : Fin 2) (o : Fin 128) (h w d : Fin 16) : val_main_v188 (F := Ideal) a0 a1 a4 a5 a6 a7 (ix5 b o h w d)
    = ((tapSum (fun o k a p q => x7 (ix5 o k a p q)) (sumT x0 x1 x4 x5 x6 b) o (pos h w d) 2 1 0 : ℝ) : EReal) := by
  pointwise [val_main_v188, val_main_v187, val_main_v186, val_main_v185, val_main_v184]
  exact term_at a0 a1 a4 a5 a6 a7 x0 x1 x4 x5 x6 x7 h0 h1 h4 h5 h6 h7 b o h w d 2 1 0 _ _ _ (by simp) (by simp) (by simp)

theorem v194_at (b : Fin 2) (o : Fin 128) (h w d : Fin 16) : val_main_v194 (F := Ideal) a0 a1 a4 a5 a6 a7 (ix5 b o h w d)
    = ((tapSum (fun o k a p q => x7 (ix5 o k a p q)) (sumT x0 x1 x4 x5 x6 b) o (pos h w d) 2 1 1 : ℝ) : EReal) := by
  pointwise [val_main_v194, val_main_v193, val_main_v192, val_main_v191, val_main_v190]
  exact term_at a0 a1 a4 a5 a6 a7 x0 x1 x4 x5 x6 x7 h0 h1 h4 h5 h6 h7 b o h w d 2 1 1 _ _ _ (by simp) (by simp) (by simp)

theorem v200_at (b : Fin 2) (o : Fin 128) (h w d : Fin 16) : val_main_v200 (F := Ideal) a0 a1 a4 a5 a6 a7 (ix5 b o h w d)
    = ((tapSum (fun o k a p q => x7 (ix5 o k a p q)) (sumT x0 x1 x4 x5 x6 b) o (pos h w d) 2 1 2 : ℝ) : EReal) := by
  pointwise [val_main_v200, val_main_v199, val_main_v198, val_main_v197, val_main_v196]
  exact term_at a0 a1 a4 a5 a6 a7 x0 x1 x4 x5 x6 x7 h0 h1 h4 h5 h6 h7 b o h w d 2 1 2 _ _ _ (by simp) (by simp) (by simp)

theorem v206_at (b : Fin 2) (o : Fin 128) (h w d : Fin 16) : val_main_v206 (F := Ideal) a0 a1 a4 a5 a6 a7 (ix5 b o h w d)
    = ((tapSum (fun o k a p q => x7 (ix5 o k a p q)) (sumT x0 x1 x4 x5 x6 b) o (pos h w d) 2 2 0 : ℝ) : EReal) := by
  pointwise [val_main_v206, val_main_v205, val_main_v204, val_main_v203, val_main_v202]
  exact term_at a0 a1 a4 a5 a6 a7 x0 x1 x4 x5 x6 x7 h0 h1 h4 h5 h6 h7 b o h w d 2 2 0 _ _ _ (by simp) (by simp) (by simp)

theorem v212_at (b : Fin 2) (o : Fin 128) (h w d : Fin 16) : val_main_v212 (F := Ideal) a0 a1 a4 a5 a6 a7 (ix5 b o h w d)
    = ((tapSum (fun o k a p q => x7 (ix5 o k a p q)) (sumT x0 x1 x4 x5 x6 b) o (pos h w d) 2 2 1 : ℝ) : EReal) := by
  pointwise [val_main_v212, val_main_v211, val_main_v210, val_main_v209, val_main_v208]
  exact term_at a0 a1 a4 a5 a6 a7 x0 x1 x4 x5 x6 x7 h0 h1 h4 h5 h6 h7 b o h w d 2 2 1 _ _ _ (by simp) (by simp) (by simp)

theorem v218_at (b : Fin 2) (o : Fin 128) (h w d : Fin 16) : val_main_v218 (F := Ideal) a0 a1 a4 a5 a6 a7 (ix5 b o h w d)
    = ((tapSum (fun o k a p q => x7 (ix5 o k a p q)) (sumT x0 x1 x4 x5 x6 b) o (pos h w d) 2 2 2 : ℝ) : EReal) := by
  pointwise [val_main_v218, val_main_v217, val_main_v216, val_main_v215, val_main_v214]
  exact term_at a0 a1 a4 a5 a6 a7 x0 x1 x4 x5 x6 x7 h0 h1 h4 h5 h6 h7 b o h w d 2 2 2 _ _ _ (by simp) (by simp) (by simp)

/-- The convolution. -/
theorem v219_at (b : Fin 2) (o : Fin 128) (h w d : Fin 16) : val_main_v219 (F := Ideal) a0 a1 a4 a5 a6 a7 (ix5 b o h w d)
    = ((convY x0 x1 x4 x5 x6 x7 b o (pos h w d) : ℝ) : EReal) := by
  pointwise [val_main_v219, val_main_v213, val_main_v207, val_main_v201, val_main_v195, val_main_v189, val_main_v183, val_main_v177, val_main_v171, val_main_v165, val_main_v159, val_main_v153, val_main_v147, val_main_v141, val_main_v135, val_main_v129, val_main_v123, val_main_v117, val_main_v111, val_main_v105, val_main_v99, val_main_v93, val_main_v87, val_main_v81, val_main_v75, val_main_v69]
  rw [v63_at a0 a1 a4 a5 a6 a7 x0 x1 x4 x5 x6 x7 h0 h1 h4 h5 h6 h7,
    v68_at a0 a1 a4 a5 a6 a7 x0 x1 x4 x5 x6 x7 h0 h1 h4 h5 h6 h7,
    v74_at a0 a1 a4 a5 a6 a7 x0 x1 x4 x5 x6 x7 h0 h1 h4 h5 h6 h7,
    v80_at a0 a1 a4 a5 a6 a7 x0 x1 x4 x5 x6 x7 h0 h1 h4 h5 h6 h7,
    v86_at a0 a1 a4 a5 a6 a7 x0 x1 x4 x5 x6 x7 h0 h1 h4 h5 h6 h7,
    v92_at a0 a1 a4 a5 a6 a7 x0 x1 x4 x5 x6 x7 h0 h1 h4 h5 h6 h7,
    v98_at a0 a1 a4 a5 a6 a7 x0 x1 x4 x5 x6 x7 h0 h1 h4 h5 h6 h7,
    v104_at a0 a1 a4 a5 a6 a7 x0 x1 x4 x5 x6 x7 h0 h1 h4 h5 h6 h7,
    v110_at a0 a1 a4 a5 a6 a7 x0 x1 x4 x5 x6 x7 h0 h1 h4 h5 h6 h7,
    v116_at a0 a1 a4 a5 a6 a7 x0 x1 x4 x5 x6 x7 h0 h1 h4 h5 h6 h7,
    v122_at a0 a1 a4 a5 a6 a7 x0 x1 x4 x5 x6 x7 h0 h1 h4 h5 h6 h7,
    v128_at a0 a1 a4 a5 a6 a7 x0 x1 x4 x5 x6 x7 h0 h1 h4 h5 h6 h7,
    v134_at a0 a1 a4 a5 a6 a7 x0 x1 x4 x5 x6 x7 h0 h1 h4 h5 h6 h7,
    v140_at a0 a1 a4 a5 a6 a7 x0 x1 x4 x5 x6 x7 h0 h1 h4 h5 h6 h7,
    v146_at a0 a1 a4 a5 a6 a7 x0 x1 x4 x5 x6 x7 h0 h1 h4 h5 h6 h7,
    v152_at a0 a1 a4 a5 a6 a7 x0 x1 x4 x5 x6 x7 h0 h1 h4 h5 h6 h7,
    v158_at a0 a1 a4 a5 a6 a7 x0 x1 x4 x5 x6 x7 h0 h1 h4 h5 h6 h7,
    v164_at a0 a1 a4 a5 a6 a7 x0 x1 x4 x5 x6 x7 h0 h1 h4 h5 h6 h7,
    v170_at a0 a1 a4 a5 a6 a7 x0 x1 x4 x5 x6 x7 h0 h1 h4 h5 h6 h7,
    v176_at a0 a1 a4 a5 a6 a7 x0 x1 x4 x5 x6 x7 h0 h1 h4 h5 h6 h7,
    v182_at a0 a1 a4 a5 a6 a7 x0 x1 x4 x5 x6 x7 h0 h1 h4 h5 h6 h7,
    v188_at a0 a1 a4 a5 a6 a7 x0 x1 x4 x5 x6 x7 h0 h1 h4 h5 h6 h7,
    v194_at a0 a1 a4 a5 a6 a7 x0 x1 x4 x5 x6 x7 h0 h1 h4 h5 h6 h7,
    v200_at a0 a1 a4 a5 a6 a7 x0 x1 x4 x5 x6 x7 h0 h1 h4 h5 h6 h7,
    v206_at a0 a1 a4 a5 a6 a7 x0 x1 x4 x5 x6 x7 h0 h1 h4 h5 h6 h7,
    v212_at a0 a1 a4 a5 a6 a7 x0 x1 x4 x5 x6 x7 h0 h1 h4 h5 h6 h7,
    v218_at a0 a1 a4 a5 a6 a7 x0 x1 x4 x5 x6 x7 h0 h1 h4 h5 h6 h7]
  simp only [← EReal.coe_add]
  refine congrArg _ ?_
  unfold convY
  rw [conv_eq]
  simp only [Fin.sum_univ_three, add_assoc]

end

end Cert.Ref
-- ==== Proof.RefC.lean ====
module

public import proofs.«01_k».proof.Proof.RefB

@[expose] public section

set_option maxRecDepth 16384

/-! The reference's normalisation and last step, element by element. -/

noncomputable section

namespace Cert.Ref

open Cert.ReferenceIdeal Cert.ReferenceIdeal.Gen Cert.ReferenceIdeal.Read Idealize.ShloMosaic Idealize.ShloMosaic.TcCoe Idealize.SL.Sem Cert.Model

/-- Two elements of a volume are one when channel and position are. -/
theorem vol_inj (b : Fin 2) : Function.Injective fun k : Fin 128 × Fin 4096 => vol b k.1 k.2 := by
  intro k k' e
  have e1 : k.1 = k'.1 := congrFun e 1
  have e2 : k.2.val / 256 = k'.2.val / 256 := congrArg Fin.val (congrFun e 2)
  have e3 : k.2.val / 16 % 16 = k'.2.val / 16 % 16 := congrArg Fin.val (congrFun e 3)
  have e4 : k.2.val % 16 = k'.2.val % 16 := congrArg Fin.val (congrFun e 4)
  exact Prod.ext e1 (Fin.ext (by omega))

/-- The elements that a sum over channels and all three coordinates gathers for one batch item. -/
theorem drop_iff (h : S2x128x16x16x16.ReducesTo [1, 2, 3, 4] S2) (b : Fin 2) (i : S2x128x16x16x16.Idx) :
    h.drop i = ix1 b ↔ ∃ k : Fin 128 × Fin 4096, vol b k.1 k.2 = i := by
  constructor
  · intro e
    have h2 : (i 2).val < 16 := (i 2).isLt
    have h3 : (i 3).val < 16 := (i 3).isLt
    have h4 : (i 4).val < 16 := (i 4).isLt
    refine ⟨(i 1, ⟨256 * (i 2).val + 16 * (i 3).val + (i 4).val, by omega⟩), ?_⟩
    funext a
    apply Fin.ext
    match a with
    | ⟨0, _⟩ => exact (congrArg Fin.val (congrFun e 0)).symm
    | ⟨1, _⟩ => rfl
    | ⟨2, _⟩ => show (256 * (i 2).val + 16 * (i 3).val + (i 4).val) / 256 = (i 2).val; omega
    | ⟨3, _⟩ => show (256 * (i 2).val + 16 * (i 3).val + (i 4).val) / 16 % 16 = (i 3).val; omega
    | ⟨4, _⟩ => show (256 * (i 2).val + 16 * (i 3).val + (i 4).val) % 16 = (i 4).val; omega
  · rintro ⟨k, rfl⟩
    funext a
    apply Fin.ext
    match a with
    | ⟨0, _⟩ => rfl

/-- The sum over channels and all three coordinates of one batch item. -/
theorem sum_volume (h : S2x128x16x16x16.ReducesTo [1, 2, 3, 4] S2) (v : S2x128x16x16x16.Idx → EReal) (z : EReal) (b : Fin 2) :
    Ideal.hostReduceAdd h v z (ix1 b) = z + ∑ o : Fin 128, ∑ n : Fin 4096, v (vol b o n) := by
  refine congrArg (z + ·) ((Finset.sum_filter_eq_sum_of_fiber _ _ (vol_inj b) (drop_iff h b) v).trans ?_)
  simp only [Fintype.sum_prod_type]

theorem pos_vol (n : Fin 4096) : pos ⟨n.val / 256, by omega⟩ ⟨n.val / 16 % 16, by omega⟩ ⟨n.val % 16, by omega⟩ = n :=
  Fin.ext (by show 256 * (n.val / 256) + 16 * (n.val / 16 % 16) + n.val % 16 = n.val; omega)

section

variable (a0 : (⟨S2x128x16x16x16, .f32⟩ : BufTy).Contents (Elt Ideal)) (a1 : (⟨S512x128, .f32⟩ : BufTy).Contents (Elt Ideal))
  (a4 : (⟨S128x128, .f32⟩ : BufTy).Contents (Elt Ideal)) (a5 a6 : (⟨S128, .f32⟩ : BufTy).Contents (Elt Ideal))
  (a7 : (⟨S128x128x3x3x3, .f32⟩ : BufTy).Contents (Elt Ideal))
  (x0 : (⟨5, ![2, 128, 16, 16, 16]⟩ : Shape).Idx → ℝ) (x1 : (⟨2, ![512, 128]⟩ : Shape).Idx → ℝ)
  (x4 : (⟨2, ![128, 128]⟩ : Shape).Idx → ℝ) (x5 x6 : (⟨1, ![128]⟩ : Shape).Idx → ℝ)
  (x7 : (⟨5, ![128, 128, 3, 3, 3]⟩ : Shape).Idx → ℝ)
  (h0 : ∀ i, a0 i = ((x0 i : ℝ) : EReal)) (h1 : ∀ (r : Fin 512) (r' : Fin 384) (k : Fin 128), r.val = r'.val → a1 (ix2 r k) = ((argW x1 r' k : ℝ) : EReal))
  (h4 : ∀ i, a4 i = ((x4 i : ℝ) : EReal)) (h5 : ∀ i, a5 i = ((x5 i : ℝ) : EReal)) (h6 : ∀ i, a6 i = ((x6 i : ℝ) : EReal))
  (h7 : ∀ i, a7 i = ((x7 i : ℝ) : EReal))

include h0 h1 h4 h5 h6

theorem v57_vol (b : Fin 2) (o : Fin 128) (n : Fin 4096) :
    val_main_v57 (F := Ideal) a0 a1 a4 a5 a6 (vol b o n) = ((sumT x0 x1 x4 x5 x6 b o n : ℝ) : EReal) :=
  (v57_at a0 a1 x0 x1 h0 h1 a4 a5 a6 x4 x5 x6 h4 h5 h6 b o _ _ _).trans (congrArg (fun n => ((sumT x0 x1 x4 x5 x6 b o n : ℝ) : EReal)) (pos_vol n))

include h7

theorem v219_vol (b : Fin 2) (o : Fin 128) (n : Fin 4096) :
    val_main_v219 (F := Ideal) a0 a1 a4 a5 a6 a7 (vol b o n) = ((convY x0 x1 x4 x5 x6 x7 b o n : ℝ) : EReal) :=
  (v219_at a0 a1 a4 a5 a6 a7 x0 x1 x4 x5 x6 x7 h0 h1 h4 h5 h6 h7 b o _ _ _).trans (congrArg (fun n => ((convY x0 x1 x4 x5 x6 x7 b o n : ℝ) : EReal)) (pos_vol n))

theorem v220_at (b : Fin 2) :
    val_main_v220 (F := Ideal) a0 a1 a4 a5 a6 a7 (ix1 b) = ((∑ o, ∑ n, convY x0 x1 x4 x5 x6 x7 b o n : ℝ) : EReal) := by
  refine (sum_volume _ _ _ b).trans ?_
  simp only [v219_vol a0 a1 a4 a5 a6 a7 x0 x1 x4 x5 x6 x7 h0 h1 h4 h5 h6 h7, ← coe_sum]
  pointwise [val_main_cst_6]

/-- The mean of one batch item. -/
theorem v223_at (b : Fin 2) (z0 z1 z2 z3 : Fin 1) :
    val_main_v223 (F := Ideal) a0 a1 a4 a5 a6 a7 (ix5 b z0 z1 z2 z3) = ((mean (convY x0 x1 x4 x5 x6 x7 b) : ℝ) : EReal) := by
  pointwise [val_main_v223, val_main_v222, val_main_v221, val_main_cst_7]
  rw [v220_at a0 a1 a4 a5 a6 a7 x0 x1 x4 x5 x6 x7 h0 h1 h4 h5 h6 h7, ofBits_count, div_real _ _ (by norm_num)]
  rfl

theorem call1_v3_at (b : Fin 2) (z0 z1 z2 z3 : Fin 1) :
    val_main_call1_v3 (F := Ideal) a0 a1 a4 a5 a6 a7 (ix5 b z0 z1 z2 z3) = ((mean (convY x0 x1 x4 x5 x6 x7 b) : ℝ) : EReal) :=
  v223_at a0 a1 a4 a5 a6 a7 x0 x1 x4 x5 x6 x7 h0 h1 h4 h5 h6 h7 b z0 z1 z2 z3

theorem call1_v6_vol (b : Fin 2) (o : Fin 128) (n : Fin 4096) :
    val_main_call1_v6 (F := Ideal) a0 a1 a4 a5 a6 a7 (vol b o n)
      = (((convY x0 x1 x4 x5 x6 x7 b o n - mean (convY x0 x1 x4 x5 x6 x7 b)) * (convY x0 x1 x4 x5 x6 x7 b o n - mean (convY x0 x1 x4 x5 x6 x7 b)) : ℝ) : EReal) := by
  have e : val_main_call1_v5 (F := Ideal) a0 a1 a4 a5 a6 a7 (vol b o n)
      = ((convY x0 x1 x4 x5 x6 x7 b o n - mean (convY x0 x1 x4 x5 x6 x7 b) : ℝ) : EReal) := by
    rw [EReal.coe_sub, ← v219_vol a0 a1 a4 a5 a6 a7 x0 x1 x4 x5 x6 x7 h0 h1 h4 h5 h6 h7, ← call1_v3_at a0 a1 a4 a5 a6 a7 x0 x1 x4 x5 x6 x7 h0 h1 h4 h5 h6 h7 b 0 0 0 0]
    pointwise [val_main_call1_v5, val_main_call1_v4, vol]
  rw [EReal.coe_mul, ← e]
  rfl

/-- The variance of one batch item. -/
theorem v224_at (b : Fin 2) (z0 z1 z2 z3 : Fin 1) :
    val_main_v224 (F := Ideal) a0 a1 a4 a5 a6 a7 (ix5 b z0 z1 z2 z3) = ((var (convY x0 x1 x4 x5 x6 x7 b) : ℝ) : EReal) := by
  have e9 : val_main_call1_v9 (F := Ideal) a0 a1 a4 a5 a6 a7 (ix1 b) = ((∑ o, ∑ n, (convY x0 x1 x4 x5 x6 x7 b o n - mean (convY x0 x1 x4 x5 x6 x7 b)) * (convY x0 x1 x4 x5 x6 x7 b o n - mean (convY x0 x1 x4 x5 x6 x7 b)) : ℝ) : EReal) := by
    refine (sum_volume _ _ _ b).trans ?_
    simp only [call1_v6_vol a0 a1 a4 a5 a6 a7 x0 x1 x4 x5 x6 x7 h0 h1 h4 h5 h6 h7, ← coe_sum]
    pointwise [val_main_call1_cst_2]
  have e8 : ∀ i, val_main_call1_v8 (F := Ideal) i = ((524288 : ℝ) : EReal) := by
    intro i
    pointwise [val_main_call1_v8, val_main_call1_v7, val_main_c_8, val_main_call1_cst_1]
    rw [ofBits_count, sitofp_zero, ← EReal.coe_sub, sub_zero]
  have e13 : ∀ i, val_main_call1_v13 (F := Ideal) i = 1#1 := by
    intro i
    pointwise [val_main_call1_v13, val_main_call1_cst_3]
    rw [e8, decide_eq_true (EReal.coe_pos.mpr (by norm_num))]
    rfl
  pointwise [val_main_v224, val_main_call1_v12, val_main_call1_v11, val_main_call1_v10]
  rw [e13, e9, e8, div_real _ _ (by norm_num), var_eq]
  rfl

/-- The result at one element. -/
theorem v244_at (a8 a9 : (⟨S128, .f32⟩ : BufTy).Contents (Elt Ideal)) (b : Fin 2) (o : Fin 128) (n : Fin 4096) :
    val_main_v244 (F := Ideal) a0 a1 a4 a5 a6 a7 a8 a9 (ix3 b o n) = result x0 x1 x4 x5 x6 x7 a8 a9 b o n := by
  have e : val_main_v231 (F := Ideal) a0 a1 a4 a5 a6 a7 (vol b o n)
      = (((convY x0 x1 x4 x5 x6 x7 b o n - mean (convY x0 x1 x4 x5 x6 x7 b)) * (√(var (convY x0 x1 x4 x5 x6 x7 b) + eps5))⁻¹ : ℝ) : EReal) := by
    have hp : 0 < var (convY x0 x1 x4 x5 x6 x7 b) + eps5 := add_pos_of_nonneg_of_pos (var_nonneg _) eps5_pos
    have e2 : ∀ z0 z1 z2 z3, val_main_v229 (F := Ideal) a0 a1 a4 a5 a6 a7 (ix5 b z0 z1 z2 z3) = ((√(var (convY x0 x1 x4 x5 x6 x7 b) + eps5) : ℝ) : EReal) := by
      intro z0 z1 z2 z3
      pointwise [val_main_v229, val_main_v228, val_main_v227, val_main_cst_9]
      rw [v224_at a0 a1 a4 a5 a6 a7 x0 x1 x4 x5 x6 x7 h0 h1 h4 h5 h6 h7, ofBits_eps5, ← EReal.coe_add, Ideal.sqrt_coe, if_neg (not_lt.mpr hp.le)]
    have e1 : val_main_v226 (F := Ideal) a0 a1 a4 a5 a6 a7 (vol b o n) = ((convY x0 x1 x4 x5 x6 x7 b o n - mean (convY x0 x1 x4 x5 x6 x7 b) : ℝ) : EReal) := by
      rw [EReal.coe_sub, ← v219_vol a0 a1 a4 a5 a6 a7 x0 x1 x4 x5 x6 x7 h0 h1 h4 h5 h6 h7, ← v223_at a0 a1 a4 a5 a6 a7 x0 x1 x4 x5 x6 x7 h0 h1 h4 h5 h6 h7 b 0 0 0 0]
      pointwise [val_main_v226, val_main_v225, vol]
    rw [← div_eq_mul_inv, ← div_real _ _ (Real.sqrt_pos.mpr hp).ne', ← e1, ← e2 0 0 0 0]
    pointwise [val_main_v231, val_main_v230, vol]
  have e8 : val_main_v238 (F := Ideal) a0 a1 a4 a5 a6 a7 a8 a9 (vol b o n)
      = (((convY x0 x1 x4 x5 x6 x7 b o n - mean (convY x0 x1 x4 x5 x6 x7 b)) * (√(var (convY x0 x1 x4 x5 x6 x7 b) + eps5))⁻¹ : ℝ) : EReal) * a8 (ix1 o) + a9 (ix1 o) + ((sumT x0 x1 x4 x5 x6 b o n : ℝ) : EReal) := by
    rw [← e, ← v57_vol a0 a1 a4 a5 a6 x0 x1 x4 x5 x6 h0 h1 h4 h5 h6]
    pointwise [val_main_v238, val_main_v237, val_main_v236, val_main_v235, val_main_v234, val_main_v233, val_main_v232, vol]
  have e9 : val_main_v244 (F := Ideal) a0 a1 a4 a5 a6 a7 a8 a9 (ix3 b o n) = val_main_v243 (F := Ideal) a0 a1 a4 a5 a6 a7 a8 a9 (vol b o n) := by
    pointwise [val_main_v244, vol]
  unfold result last
  rw [e9, ← e8]
  generalize vol b o n = i
  pointwise [val_main_v243, val_main_v242, val_main_v241, val_main_v240, val_main_v239, val_main_cst_10, val_main_cst_11]

end

end Cert.Ref
-- ==== Proof.Finite.lean ====
module

public import proofs.«01_k».proof.Proof.Scalars
public import proofs.«01_k».proof.Proof.Gen.Pre_finite
public import Idealize.ShloMosaic.Lib.ReduceAll

@[expose] public section

/-! What the precondition says: each entry of the arrays it names is a real number. -/

noncomputable section

namespace Cert.Finite

open Cert.Pre_finite Cert.Pre_finite.Gen Idealize.ShloMosaic Cert.Model

theorem ofBits_top : Ideal.ofBits .f32 0x7F800000#32 = ⊤ := by
  simp [Ideal.ofBits, Ideal.ieee]

/-- An extended real whose absolute value is below infinity is a real number. -/
theorem real_of_abs (x : EReal) (h : max x (-x) < ⊤) : x = ((x.toReal : ℝ) : EReal) := by
  refine (EReal.coe_toReal ?_ ?_).symm
  · rintro rfl
    simp at h
  · rintro rfl
    simp at h

/-- An array whose comparison of absolute values with infinity holds at every entry has real entries. -/
theorem real_of_all {s : Shape} {axes : List (Fin s.rank)} (a : FVec Ideal s .f32) (hb : S_.BroadcastsInDim s (![] : Fin 0 → Fin s.rank))
    (hr : s.ReducesTo axes S_) (j : S_.Idx)
    (e : Host.reduce IntOp.andi (cmpf .olt (Host.absf a) (broadcastInDim s ![] hb (constant S_ .f32 0x7F800000#32))) (constantI S_ 1 1#1) hr h_S_ j = 1#1)
    (i : s.Idx) : a i = (((a i).toReal : ℝ) : EReal) := by
  have h := Host.reduce_andi_all _ _ _ _ j e i
  have h' : BitVec.ofBool (decide (max (a i) (-a i) < Ideal.ofBits .f32 0x7F800000#32)) = 1#1 := h
  rw [ofBits_top] at h'
  refine real_of_abs _ ?_
  by_contra hn
  rw [decide_eq_false hn] at h'
  exact absurd h' (by decide)

theorem and_left {a b : BitVec 1} (h : IntOp.andi a b = 1#1) : a = 1#1 := by
  revert a b; decide

theorem and_right {a b : BitVec 1} (h : IntOp.andi a b = 1#1) : b = 1#1 := by
  revert a b; decide

/-- The precondition, read entry by entry. -/
theorem real_of_fn (a0 : FVec Ideal S2x128x16x16x16 .f32) (a1 : FVec Ideal S512x128 .f32) (a2 : FVec Ideal S128x128 .f32) (a3 : FVec Ideal S128 .f32)
    (a4 : FVec Ideal S128x128 .f32) (a5 a6 : FVec Ideal S128 .f32) (a7 : FVec Ideal S128x128x3x3x3 .f32) (a8 a9 : FVec Ideal S128 .f32) (a10 : IVec S4096x45 32)
    (h : Cert.Pre_finite.fn (F := Ideal) a0 a1 a2 a3 a4 a5 a6 a7 a8 a9 a10 = fun _ => 1#1) :
    (∀ i, a0 i = (((a0 i).toReal : ℝ) : EReal)) ∧ (∀ (r : Fin 512) (r' : Fin 384) (k : Fin 128), r.val = r'.val → a1 (ix2 r k) = ((argW (fun i => (a1 i).toReal) r' k : ℝ) : EReal)) ∧ (∀ i, a4 i = (((a4 i).toReal : ℝ) : EReal))
      ∧ (∀ i, a5 i = (((a5 i).toReal : ℝ) : EReal)) ∧ (∀ i, a6 i = (((a6 i).toReal : ℝ) : EReal)) ∧ (∀ i, a7 i = (((a7 i).toReal : ℝ) : EReal)) := by
  have z : S_.Idx := fun a => a.elim0
  have e := congrFun h z
  have e23 := and_left e
  have e18 := and_left e23
  have e13 := and_left e18
  have e8 := and_left e13
  refine ⟨real_of_all a0 _ _ z (and_left e8), fun r r' k hr => ?_, real_of_all a4 _ _ z (and_right e13),
    real_of_all a5 _ _ z (and_right e18), real_of_all a6 _ _ z (and_right e23), real_of_all a7 _ _ z (and_right e)⟩
  rw [show r = (⟨r'.val, by omega⟩ : Fin 512) from Fin.ext hr]
  have h1 := real_of_all _ _ _ z (and_right e8) (ix2 r' k)
  have hs : extractStridedSlice S384x128 ![0, 0] a1 (by decide) (ix2 r' k) = a1 (ix2 (⟨r'.val, by omega⟩ : Fin 512) k) := by
    pointwise []
  exact (hs.symm.trans h1).trans (by rw [argW]; exact congrArg (fun v : Ideal .f32 => ((EReal.toReal v : ℝ) : EReal)) hs)

end Cert.Finite
-- ==== Proof.lean ====
/- The claims of this directory, proved: the frames, the idealization of the kernel, and its value. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Read
public import proofs.«01_k».proof.Proof.Gen.Pre_finite
public import proofs.«01_k».proof.Proof.Final
public import proofs.«01_k».proof.Proof.RefC
public import proofs.«01_k».proof.Proof.Finite
public import Idealize.ShloMosaic.Adequacy
public import Idealize.ShloMosaic.Init

@[expose] public section

noncomputable section

namespace Cert.Proof

open Idealize.ShloMosaic Idealize.ShloMosaic.TcCoe Idealize.SL.Sem

/-- The kernel runs to the end and leaves its arguments. -/
theorem frame_kernel : Cert.quiescent_Kernel := fun m ρ _ => Cert.Kernel.Gen.frame m ρ

/-- The idealized kernel runs to the end and leaves its arguments. -/
theorem frame_ideal : Cert.quiescent_KernelIdeal := fun m ρ _ => Cert.KernelIdeal.Gen.frame m ρ

/-- The reference runs to the end and leaves its arguments. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The named constant is minus infinity in the idealized kernel. -/
theorem mask_named : Cert.preserves_Kernel_KernelIdeal :=
  IdealRules.named_const.statement Cert.KernelIdeal.κ "mask" .f32 0xF149F2CA#32 ⊥ rfl

/-- The kernel's result array is the reference's result on the same arguments, when the entries of six of
    them are real numbers. -/
theorem array_eq (m : (ℓ : Loc Cert.KernelIdeal.nD Cert.KernelIdeal.τ Cert.KernelIdeal.sig) → Buf (Elt Ideal) ℓ)
    (hm : Cert.Pre_KernelIdeal_finite m) (c : Dev Cert.KernelIdeal.nD) :
    (Cert.KernelIdeal.Gen.dats m 0 c).arrAt 7 Cert.KernelIdeal.cfg0.N
      = Cert.ReferenceIdeal.Read.val_main_v244 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9)) := by
  obtain ⟨h0, h1, h4, h5, h6, h7⟩ := Cert.Finite.real_of_fn _ _ _ _ _ _ _ _ _ _ _ (hm c)
  funext y
  rw [show y = ix3 (y 0) (y 1) (y 2) from eq_ix3 y]
  exact (Cert.Kern.array_at m c _ _ _ _ _ _ h0 h1 h4 h5 h6 h7 (y 0) (y 1) (y 2)).trans
    (Cert.Ref.v244_at _ _ _ _ _ _ _ _ _ _ _ _ h0 h1 h4 h5 h6 h7 _ _ (y 0) (y 1) (y 2)).symm

/-- The idealized kernel and the reference leave one array as their result. -/
theorem same_result : Cert.algebraic_KernelIdeal_ReferenceIdeal_pre_finite := fun m g m' g' hm hargs =>
  ⟨fun c => (Cert.KernelIdeal.Gen.dats m 0 c).arrAt 7 Cert.KernelIdeal.cfg0.N, Cert.KernelIdeal.Value.run_blocks m g,
    (θ_run Cert.ReferenceIdeal.defs _ _).mono (fun r h c => ⟨(h c).1.trans (by
      obtain ⟨e0, e1, e2, e3, e4, e5, e6, e7, e8, e9, e10⟩ := hargs c
      show _ = (Cert.KernelIdeal.Gen.dats m 0 c).arrAt 7 Cert.KernelIdeal.cfg0.N
      rw [array_eq m hm c, ← e0, ← e1, ← e4, ← e5, ← e6, ← e7, ← e8, ← e9]
      exact Cert.ReferenceIdeal.Read.val_main_v244_eq (F := Ideal) (StableHlo.launchContents m' c)), (h c).2⟩)
      (Cert.ReferenceIdeal.Value.run (F := Ideal) m' g')⟩

theorem claim : Cert.Claim := ⟨Cert.Kernel.Gen.facts, Cert.KernelIdeal.Gen.facts, Cert.ReferenceIdeal.Gen.facts, Cert.Pre_finite.Gen.facts,
  frame_kernel, frame_ideal, fun m ρ _ => frame_ideal m ρ trivial, frame_reference, fun m ρ _ => frame_reference m ρ trivial, mask_named, same_result⟩

end Cert.Proof

end
